-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S4x8x8192x64 : Shape := ⟨4, ![4, 8, 8192, 64]⟩
abbrev S4x2x8192x64 : Shape := ⟨4, ![4, 2, 8192, 64]⟩
abbrev S8 : Shape := ⟨1, ![8]⟩
abbrev S_ : Shape := ⟨0, ![]⟩

class Facts : Prop where
  bcast_S_S4x8x8192x64 : S_.BroadcastsInDim S4x8x8192x64 (![] : Fin 0 → Fin S4x8x8192x64.rank)
  reducesTo_S4x8x8192x64_S_d0_1_2_3 : S4x8x8192x64.ReducesTo [0, 1, 2, 3] S_
  h_S_ : 0 < S_.numel
  bcast_S_S4x2x8192x64 : S_.BroadcastsInDim S4x2x8192x64 (![] : Fin 0 → Fin S4x2x8192x64.rank)
  reducesTo_S4x2x8192x64_S_d0_1_2_3 : S4x2x8192x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4x8x8192x64 .f32) (main_arg1 : FVec F S4x2x8192x64 .f32) (main_arg2 : FVec F S4x2x8192x64 .f32) (main_arg3 : FVec F S8 .f32) : IVec S_ 1 :=
  let main_v0 : FVec F S4x8x8192x64 .f32 := Host.absf main_arg0
  let main_cst : FVec F S_ .f32 := constant S_ .f32 0x7F800000#32
  let main_v1 : FVec F S4x8x8192x64 .f32 := broadcastInDim S4x8x8192x64 ![] bcast_S_S4x8x8192x64 main_cst
  let main_v2 : IVec S4x8x8192x64 1 := cmpf .olt main_v0 main_v1
  let main_c : IVec S_ 1 := constantI S_ 1 1#1
  let main_v3 : IVec S_ 1 := (fun x v => Host.reduce IntOp.andi x v reducesTo_S4x8x8192x64_S_d0_1_2_3 h_S_) main_v2 main_c
  let main_v4 : FVec F S4x2x8192x64 .f32 := Host.absf main_arg1
  let main_cst_0 : FVec F S_ .f32 := constant S_ .f32 0x7F800000#32
  let main_v5 : FVec F S4x2x8192x64 .f32 := broadcastInDim S4x2x8192x64 ![] bcast_S_S4x2x8192x64 main_cst_0
  let main_v6 : IVec S4x2x8192x64 1 := cmpf .olt main_v4 main_v5
  let main_c_1 : IVec S_ 1 := constantI S_ 1 1#1
  let main_v7 : IVec S_ 1 := (fun x v => Host.reduce IntOp.andi x v reducesTo_S4x2x8192x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S4x8x8192x64 : Shape := ⟨4, ![4, 8, 8192, 64]⟩
abbrev S4x2x8192x64 : Shape := ⟨4, ![4, 2, 8192, 64]⟩
abbrev S8 : Shape := ⟨1, ![8]⟩
abbrev S4x8x64x8192 : Shape := ⟨4, ![4, 8, 64, 8192]⟩
abbrev S4x8192x2x64 : Shape := ⟨4, ![4, 8192, 2, 64]⟩
abbrev S4x8192x128 : Shape := ⟨3, ![4, 8192, 128]⟩
abbrev S4x2x64x128x64 : Shape := ⟨5, ![4, 2, 64, 128, 64]⟩
abbrev S4x2x64x64x128 : Shape := ⟨5, ![4, 2, 64, 64, 128]⟩
abbrev S_ : Shape := ⟨0, ![]⟩
abbrev S4x2x64x16x128 : Shape := ⟨5, ![4, 2, 64, 16, 128]⟩
abbrev S4x2x64x80x128 : Shape := ⟨5, ![4, 2, 64, 80, 128]⟩
abbrev S4x8192x512 : Shape := ⟨3, ![4, 8192, 512]⟩
abbrev S1x4x64x2048 : Shape := ⟨4, ![1, 4, 64, 2048]⟩
abbrev S1x8192x128 : Shape := ⟨3, ![1, 8192, 128]⟩
abbrev S1x1x64x80x128 : Shape := ⟨5, ![1, 1, 64, 80, 128]⟩
abbrev S1x2048x256 : Shape := ⟨3, ![1, 2048, 256]⟩
abbrev S1x512 : Shape := ⟨2, ![1, 512]⟩
abbrev S1 : Shape := ⟨1, ![1]⟩
abbrev S256x128 : Shape := ⟨2, ![256, 128]⟩
abbrev S1x256x128 : Shape := ⟨3, ![1, 256, 128]⟩
abbrev S1x1x64x128 : Shape := ⟨4, ![1, 1, 64, 128]⟩
abbrev S64x128 : Shape := ⟨2, ![64, 128]⟩
abbrev S64x512 : Shape := ⟨2, ![64, 512]⟩
abbrev S128x512 : Shape := ⟨2, ![128, 512]⟩
abbrev S256x512 : Shape := ⟨2, ![256, 512]⟩
abbrev S512 : Shape := ⟨1, ![512]⟩
abbrev S1x1x1x80x128 : Shape := ⟨5, ![1, 1, 1, 80, 128]⟩
abbrev S80x128 : Shape := ⟨2, ![80, 128]⟩
abbrev S80x512 : Shape := ⟨2, ![80, 512]⟩
abbrev S128x64 : Shape := ⟨2, ![128, 64]⟩
abbrev S128x256 : Shape := ⟨2, ![128, 256]⟩
abbrev S1x128x256 : Shape := ⟨3, ![1, 128, 256]⟩

abbrev nBuf : Space → Nat
  | .hbm => 15
  | .vmem => 8
  | .smem => 1
  | _ => 0

abbrev bufTy : (tb : Table) → Fin (tcTables nBuf tb) → BufTy
  | .hbm, ⟨0, _⟩ => ⟨S4x8x8192x64, .f32⟩
  | .hbm, ⟨1, _⟩ => ⟨S4x2x8192x64, .f32⟩
  | .hbm, ⟨2, _⟩ => ⟨S4x2x8192x64, .f32⟩
  | .hbm, ⟨3, _⟩ => ⟨S8, .f32⟩
  | .hbm, ⟨4, _⟩ => ⟨S4x8x64x8192, .f32⟩
  | .hbm, ⟨5, _⟩ => ⟨S4x8192x2x64, .f32⟩
  | .hbm, ⟨6, _⟩ => ⟨S4x8192x128, .f32⟩
  | .hbm, ⟨7, _⟩ => ⟨S4x8192x128, .bf16⟩
  | .hbm, ⟨8, _⟩ => ⟨S4x2x64x128x64, .f32⟩
  | .hbm, ⟨9, _⟩ => ⟨S4x2x64x64x128, .f32⟩
  | .hbm, ⟨10, _⟩ => ⟨S4x2x64x64x128, .bf16⟩
  | .hbm, ⟨11, _⟩ => ⟨S_, .bf16⟩
  | .hbm, ⟨12, _⟩ => ⟨S4x2x64x16x128, .bf16⟩
  | .hbm, ⟨13, _⟩ => ⟨S4x2x64x80x128, .bf16⟩
  | .hbm, ⟨14, _⟩ => ⟨S4x8192x512, .f32⟩
  | .local _ .vmem, ⟨0, _⟩ => ⟨S1x4x64x2048, .f32⟩
  | .local _ .vmem, ⟨1, _⟩ => ⟨S1x4x64x2048, .f32⟩
  | .local _ .vmem, ⟨2, _⟩ => ⟨S1x8192x128, .bf16⟩
  | .local _ .vmem, ⟨3, _⟩ => ⟨S1x8192x128, .bf16⟩
  | .local _ .vmem, ⟨4, _⟩ => ⟨S1x1x64x80x128, .bf16⟩
  | .local _ .vmem, ⟨5, _⟩ => ⟨S1x1x64x80x128, .bf16⟩
  | .local _ .vmem, ⟨6, _⟩ => ⟨S1x2048x256, .f32⟩
  | .local _ .vmem, ⟨7, _⟩ => ⟨S1x2048x256, .f32⟩
  | .local _ .smem, ⟨0, _⟩ => ⟨S8, .f32⟩
  | _, _ => ⟨S4x8x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 4], ![false, false, false]⟩

def k0_off1 (i : grid0.Coords) (c0_i32_0 : BitVec 32) : Fin 1 → Nat :=
  let arg1 : BitVec 32 := BitVec.ofNat 32 (i 1).val
  let c4_i32 : BitVec 32 := 4#32
  let v7 : BitVec 32 := Scalar.muli arg1 c4_i32
  let v8 : BitVec 32 := Scalar.addi v7 c0_i32_0
  let v9 : Index := Scalar.indexCast v8
  ![v9.toNat]
def k0_mult1 (i : grid0.Coords) : BitVec 32 :=
  let arg2 : BitVec 32 := BitVec.ofNat 32 (i 2).val
  let c16_i32 : BitVec 32 := 16#32
  let v50 : BitVec 32 := Scalar.muli arg2 c16_i32
  let c0_i32_8 : BitVec 32 := 0#32
  let v51 : BitVec 32 := Scalar.addi v50 c0_i32_8
  let c128_i32_9 : BitVec 32 := 128#32
  let v52 : BitVec 32 := Scalar.muli v51 c128_i32_9
  let c128_i32_10 : BitVec 32 := 128#32
  let v53 : BitVec 32 := Scalar.subi v52 c128_i32_10
  let c0_i32_11 : BitVec 32 := 0#32
  let v54 : BitVec 32 := Scalar.maxsi v53 c0_i32_11
  v54
def k0_off2 (i : grid0.Coords) (c0_i32_8 : BitVec 32) : Fin 3 → Nat :=
  let c0 : Index := 0#32
  let arg2 : BitVec 32 := BitVec.ofNat 32 (i 2).val
  let c16_i32 : BitVec 32 := 16#32
  let v50 : BitVec 32 := Scalar.muli arg2 c16_i32
  let v51 : BitVec 32 := Scalar.addi v50 c0_i32_8
  let c128_i32_9 : BitVec 32 := 128#32
  let v52 : BitVec 32 := Scalar.muli v51 c128_i32_9
  let c128_i32_10 : BitVec 32 := 128#32
  let v53 : BitVec 32 := Scalar.subi v52 c128_i32_10
  let c0_i32_11 : BitVec 32 := 0#32
  let v54 : BitVec 32 := Scalar.maxsi v53 c0_i32_11
  let v55 : BitVec 32 := v54
  let v56 : Index := Scalar.indexCast v55
  let c0_12 : Index := 0#32
  ![0, v56.toNat, 0]
def k0_off3 (i : grid0.Coords) (c0_i32_8 : BitVec 32) : Fin 5 → Nat :=
  let c0_45 : Index := 0#32
  let c0_46 : Index := 0#32
  let arg2 : BitVec 32 := BitVec.ofNat 32 (i 2).val
  let c16_i32 : BitVec 32 := 16#32
  let v50 : BitVec 32 := Scalar.muli arg2 c16_i32
  let v51 : BitVec 32 := Scalar.addi v50 c0_i32_8
  let c128_i32_9 : BitVec 32 := 128#32
  let v52 : BitVec 32 := Scalar.muli v51 c128_i32_9
  let c128_i32_10 : BitVec 32 := 128#32
  let v53 : BitVec 32 := Scalar.subi v52 c128_i32_10
  let c0_i32_11 : BitVec 32 := 0#32
  let v54 : BitVec 32 := Scalar.maxsi v53 c0_i32_11
  let v55 : BitVec 32 := v54
  let c0_i32_39 : BitVec 32 := 0#32
  let v104 : BitVec 1 := Scalar.cmpi .sgt v55 c0_i32_39
  let v105 : BitVec 32 := Scalar.extui v104
  let c0_i32_40 : BitVec 32 := 0#32
  let v106 : BitVec 1 := Scalar.cmpi .slt v55 c0_i32_40
  let v107 : BitVec 32 := Scalar.extui v106
  let v108 : BitVec 32 := Scalar.subi v105 v107
  let c128_i32_38 : BitVec 32 := 128#32
  let c0_i32_41 : BitVec 32 := 0#32
  let v109 : BitVec 1 := Scalar.cmpi .sgt c128_i32_38 c0_i32_41
  let v110 : BitVec 32 := Scalar.extui v109
  let c0_i32_42 : BitVec 32 := 0#32
  let v111 : BitVec 1 := Scalar.cmpi .slt c128_i32_38 c0_i32_42
  let v112 : BitVec 32 := Scalar.extui v111
  let v113 : BitVec 32 := Scalar.subi v110 v112
  let v114 : BitVec 1 := Scalar.cmpi .ne v108 v113
  let v115 : BitVec 32 := Scalar.remsi v55 c128_i32_38
  let c0_i32_43 : BitVec 32 := 0#32
  let v116 : BitVec 1 := Scalar.cmpi .ne v115 c0_i32_43
  let v117 : BitVec 1 := Scalar.andi v114 v116
  let v103 : BitVec 32 := Scalar.divsi v55 c128_i32_38
  let c1_i32_44 : BitVec 32 := 1#32
  let v118 : BitVec 32 := Scalar.subi v103 c1_i32_44
  let v119 : BitVec 32 := Scalar.select v117 v118 v103
  let v120 : Index := Scalar.indexCast v119
  let c0_47 : Index := 0#32
  let c0_48 : Index := 0#32
  ![0, 0, v120.toNat, 0, 0]
def k0_off4 (i : grid0.Coords) (c0_i32_8 : BitVec 32) : Fin 5 → Nat :=
  let c0_51 : Index := 0#32
  let c0_52 : Index := 0#32
  let arg2 : BitVec 32 := BitVec.ofNat 32 (i 2).val
  let c16_i32 : BitVec 32 := 16#32
  let v50 : BitVec 32 := Scalar.muli arg2 c16_i32
  let v51 : BitVec 32 := Scalar.addi v50 c0_i32_8
  let c128_i32_9 : BitVec 32 := 128#32
  let v52 : BitVec 32 := Scalar.muli v51 c128_i32_9
  let c128_i32_10 : BitVec 32 := 128#32
  let v53 : BitVec 32 := Scalar.subi v52 c128_i32_10
  let c0_i32_11 : BitVec 32 := 0#32
  let v54 : BitVec 32 := Scalar.maxsi v53 c0_i32_11
  let v55 : BitVec 32 := v54
  let c0_i32_39 : BitVec 32 := 0#32
  let v104 : BitVec 1 := Scalar.cmpi .sgt v55 c0_i32_39
  let v105 : BitVec 32 := Scalar.extui v104
  let c0_i32_40 : BitVec 32 := 0#32
  let v106 : BitVec 1 := Scalar.cmpi .slt v55 c0_i32_40
  let v107 : BitVec 32 := Scalar.extui v106
  let v108 : BitVec 32 := Scalar.subi v105 v107
  let c128_i32_38 : BitVec 32 := 128#32
  let c0_i32_41 : BitVec 32 := 0#32
  let v109 : BitVec 1 := Scalar.cmpi .sgt c128_i32_38 c0_i32_41
  let v110 : BitVec 32 := Scalar.extui v109
  let c0_i32_42 : BitVec 32 := 0#32
  let v111 : BitVec 1 := Scalar.cmpi .slt c128_i32_38 c0_i32_42
  let v112 : BitVec 32 := Scalar.extui v111
  let v113 : BitVec 32 := Scalar.subi v110 v112
  let v114 : BitVec 1 := Scalar.cmpi .ne v108 v113
  let v115 : BitVec 32 := Scalar.remsi v55 c128_i32_38
  let c0_i32_43 : BitVec 32 := 0#32
  let v116 : BitVec 1 := Scalar.cmpi .ne v115 c0_i32_43
  let v117 : BitVec 1 := Scalar.andi v114 v116
  let v103 : BitVec 32 := Scalar.divsi v55 c128_i32_38
  let c1_i32_44 : BitVec 32 := 1#32
  let v118 : BitVec 32 := Scalar.subi v103 c1_i32_44
  let v119 : BitVec 32 := Scalar.select v117 v118 v103
  let c1_i32_50 : BitVec 32 := 1#32
  let v125 : BitVec 32 := Scalar.addi v119 c1_i32_50
  let v126 : Index := Scalar.indexCast v125
  let c0_53 : Index := 0#32
  let c0_54 : Index := 0#32
  ![0, 0, v126.toNat, 0, 0]
def k0_mult2 (i : grid0.Coords) : BitVec 32 :=
  let arg2 : BitVec 32 := BitVec.ofNat 32 (i 2).val
  let c16_i32_60 : BitVec 32 := 16#32
  let v153 : BitVec 32 := Scalar.muli arg2 c16_i32_60
  let c1_i32_61 : BitVec 32 := 1#32
  let v154 : BitVec 32 := Scalar.addi v153 c1_i32_61
  let c128_i32_62 : BitVec 32 := 128#32
  let v155 : BitVec 32 := Scalar.muli v154 c128_i32_62
  let c128_i32_63 : BitVec 32 := 128#32
  let v156 : BitVec 32 := Scalar.subi v155 c128_i32_63
  let c0_i32_64 : BitVec 32 := 0#32
  let v157 : BitVec 32 := Scalar.maxsi v156 c0_i32_64
  v157
def k0_mult3 (i : grid0.Coords) : BitVec 32 :=
  let arg2 : BitVec 32 := BitVec.ofNat 32 (i 2).val
  let c16_i32_116 : BitVec 32 := 16#32
  let v256 : BitVec 32 := Scalar.muli arg2 c16_i32_116
  let c2_i32_117 : BitVec 32 := 2#32
  let v257 : BitVec 32 := Scalar.addi v256 c2_i32_117
  let c128_i32_118 : BitVec 32 := 128#32
  let v258 : BitVec 32 := Scalar.muli v257 c128_i32_118
  let c128_i32_119 : BitVec 32 := 128#32
  let v259 : BitVec 32 := Scalar.subi v258 c128_i32_119
  let c0_i32_120 : BitVec 32 := 0#32
  let v260 : BitVec 32 := Scalar.maxsi v259 c0_i32_120
  v260
def k0_mult4 (i : grid0.Coords) : BitVec 32 :=
  let arg2 : BitVec 32 := BitVec.ofNat 32 (i 2).val
  let c16_i32_172 : BitVec 32 := 16#32
  let v359 : BitVec 32 := Scalar.muli arg2 c16_i32_172
  let c3_i32_173 : BitVec 32 := 3#32
  let v360 : BitVec 32 := Scalar.addi v359 c3_i32_173
  let c128_i32_174 : BitVec 32 := 128#32
  let v361 : BitVec 32 := Scalar.muli v360 c128_i32_174
  let c128_i32_175 : BitVec 32 := 128#32
  let v362 : BitVec 32 := Scalar.subi v361 c128_i32_175
  let c0_i32_176 : BitVec 32 := 0#32
  let v363 : BitVec 32 := Scalar.maxsi v362 c0_i32_176
  v363
def k0_mult5 (i : grid0.Coords) : BitVec 32 :=
  let arg2 : BitVec 32 := BitVec.ofNat 32 (i 2).val
  let c16_i32_228 : BitVec 32 := 16#32
  let v462 : BitVec 32 := Scalar.muli arg2 c16_i32_228
  let c4_i32_229 : BitVec 32 := 4#32
  let v463 : BitVec 32 := Scalar.addi v462 c4_i32_229
  let c128_i32_230 : BitVec 32 := 128#32
  let v464 : BitVec 32 := Scalar.muli v463 c128_i32_230
  let c128_i32_231 : BitVec 32 := 128#32
  let v465 : BitVec 32 := Scalar.subi v464 c128_i32_231
  let c0_i32_232 : BitVec 32 := 0#32
  let v466 : BitVec 32 := Scalar.maxsi v465 c0_i32_232
  v466
def k0_mult6 (i : grid0.Coords) : BitVec 32 :=
  let arg2 : BitVec 32 := BitVec.ofNat 32 (i 2).val
  let c16_i32_284 : BitVec 32 := 16#32
  let v565 : BitVec 32 := Scalar.muli arg2 c16_i32_284
  let c5_i32 : BitVec 32 := 5#32
  let v566 : BitVec 32 := Scalar.addi v565 c5_i32
  let c128_i32_285 : BitVec 32 := 128#32
  let v567 : BitVec 32 := Scalar.muli v566 c128_i32_285
  let c128_i32_286 : BitVec 32 := 128#32
  let v568 : BitVec 32 := Scalar.subi v567 c128_i32_286
  let c0_i32_287 : BitVec 32 := 0#32
  let v569 : BitVec 32 := Scalar.maxsi v568 c0_i32_287
  v569
def k0_mult7 (i : grid0.Coords) : BitVec 32 :=
  let arg2 : BitVec 32 := BitVec.ofNat 32 (i 2).val
  let c16_i32_339 : BitVec 32 := 16#32
  let v668 : BitVec 32 := Scalar.muli arg2 c16_i32_339
  let c6_i32 : BitVec 32 := 6#32
  let v669 : BitVec 32 := Scalar.addi v668 c6_i32
  let c128_i32_340 : BitVec 32 := 128#32
  let v670 : BitVec 32 := Scalar.muli v669 c128_i32_340
  let c128_i32_341 : BitVec 32 := 128#32
  let v671 : BitVec 32 := Scalar.subi v670 c128_i32_341
  let c0_i32_342 : BitVec 32 := 0#32
  let v672 : BitVec 32 := Scalar.maxsi v671 c0_i32_342
  v672
def k0_mult8 (i : grid0.Coords) : BitVec 32 :=
  let arg2 : BitVec 32 := BitVec.ofNat 32 (i 2).val
  let c16_i32_394 : BitVec 32 := 16#32
  let v771 : BitVec 32 := Scalar.muli arg2 c16_i32_394
  let c7_i32 : BitVec 32 := 7#32
  let v772 : BitVec 32 := Scalar.addi v771 c7_i32
  let c128_i32_395 : BitVec 32 := 128#32
  let v773 : BitVec 32 := Scalar.muli v772 c128_i32_395
  let c128_i32_396 : BitVec 32 := 128#32
  let v774 : BitVec 32 := Scalar.subi v773 c128_i32_396
  let c0_i32_397 : BitVec 32 := 0#32
  let v775 : BitVec 32 := Scalar.maxsi v774 c0_i32_397
  v775
def k0_mult9 (i : grid0.Coords) : BitVec 32 :=
  let arg2 : BitVec 32 := BitVec.ofNat 32 (i 2).val
  let c16_i32_449 : BitVec 32 := 16#32
  let v874 : BitVec 32 := Scalar.muli arg2 c16_i32_449
  let c8_i32 : BitVec 32 := 8#32
  let v875 : BitVec 32 := Scalar.addi v874 c8_i32
  let c128_i32_450 : BitVec 32 := 128#32
  let v876 : BitVec 32 := Scalar.muli v875 c128_i32_450
  let c128_i32_451 : BitVec 32 := 128#32
  let v877 : BitVec 32 := Scalar.subi v876 c128_i32_451
  let c0_i32_452 : BitVec 32 := 0#32
  let v878 : BitVec 32 := Scalar.maxsi v877 c0_i32_452
  v878
def k0_mult10 (i : grid0.Coords) : BitVec 32 :=
  let arg2 : BitVec 32 := BitVec.ofNat 32 (i 2).val
  let c16_i32_504 : BitVec 32 := 16#32
  let v977 : BitVec 32 := Scalar.muli arg2 c16_i32_504
  let c9_i32 : BitVec 32 := 9#32
  let v978 : BitVec 32 := Scalar.addi v977 c9_i32
  let c128_i32_505 : BitVec 32 := 128#32
  let v979 : BitVec 32 := Scalar.muli v978 c128_i32_505
  let c128_i32_506 : BitVec 32 := 128#32
  let v980 : BitVec 32 := Scalar.subi v979 c128_i32_506
  let c0_i32_507 : BitVec 32 := 0#32
  let v981 : BitVec 32 := Scalar.maxsi v980 c0_i32_507
  v981
def k0_mult11 (i : grid0.Coords) : BitVec 32 :=
  let arg2 : BitVec 32 := BitVec.ofNat 32 (i 2).val
  let c16_i32_559 : BitVec 32 := 16#32
  let v1080 : BitVec 32 := Scalar.muli arg2 c16_i32_559
  let c10_i32 : BitVec 32 := 10#32
  let v1081 : BitVec 32 := Scalar.addi v1080 c10_i32
  let c128_i32_560 : BitVec 32 := 128#32
  let v1082 : BitVec 32 := Scalar.muli v1081 c128_i32_560
  let c128_i32_561 : BitVec 32 := 128#32
  let v1083 : BitVec 32 := Scalar.subi v1082 c128_i32_561
  let c0_i32_562 : BitVec 32 := 0#32
  let v1084 : BitVec 32 := Scalar.maxsi v1083 c0_i32_562
  v1084
def k0_mult12 (i : grid0.Coords) : BitVec 32 :=
  let arg2 : BitVec 32 := BitVec.ofNat 32 (i 2).val
  let c16_i32_614 : BitVec 32 := 16#32
  let v1183 : BitVec 32 := Scalar.muli arg2 c16_i32_614
  let c11_i32 : BitVec 32 := 11#32
  let v1184 : BitVec 32 := Scalar.addi v1183 c11_i32
  let c128_i32_615 : BitVec 32 := 128#32
  let v1185 : BitVec 32 := Scalar.muli v1184 c128_i32_615
  let c128_i32_616 : BitVec 32 := 128#32
  let v1186 : BitVec 32 := Scalar.subi v1185 c128_i32_616
  let c0_i32_617 : BitVec 32 := 0#32
  let v1187 : BitVec 32 := Scalar.maxsi v1186 c0_i32_617
  v1187
def k0_mult13 (i : grid0.Coords) : BitVec 32 :=
  let arg2 : BitVec 32 := BitVec.ofNat 32 (i 2).val
  let c16_i32_669 : BitVec 32 := 16#32
  let v1286 : BitVec 32 := Scalar.muli arg2 c16_i32_669
  let c12_i32 : BitVec 32 := 12#32
  let v1287 : BitVec 32 := Scalar.addi v1286 c12_i32
  let c128_i32_670 : BitVec 32 := 128#32
  let v1288 : BitVec 32 := Scalar.muli v1287 c128_i32_670
  let c128_i32_671 : BitVec 32 := 128#32
  let v1289 : BitVec 32 := Scalar.subi v1288 c128_i32_671
  let c0_i32_672 : BitVec 32 := 0#32
  let v1290 : BitVec 32 := Scalar.maxsi v1289 c0_i32_672
  v1290
def k0_mult14 (i : grid0.Coords) : BitVec 32 :=
  let arg2 : BitVec 32 := BitVec.ofNat 32 (i 2).val
  let c16_i32_724 : BitVec 32 := 16#32
  let v1389 : BitVec 32 := Scalar.muli arg2 c16_i32_724
  let c13_i32 : BitVec 32 := 13#32
  let v1390 : BitVec 32 := Scalar.addi v1389 c13_i32
  let c128_i32_725 : BitVec 32 := 128#32
  let v1391 : BitVec 32 := Scalar.muli v1390 c128_i32_725
  let c128_i32_726 : BitVec 32 := 128#32
  let v1392 : BitVec 32 := Scalar.subi v1391 c128_i32_726
  let c0_i32_727 : BitVec 32 := 0#32
  let v1393 : BitVec 32 := Scalar.maxsi v1392 c0_i32_727
  v1393
def k0_mult15 (i : grid0.Coords) : BitVec 32 :=
  let arg2 : BitVec 32 := BitVec.ofNat 32 (i 2).val
  let c16_i32_779 : BitVec 32 := 16#32
  let v1492 : BitVec 32 := Scalar.muli arg2 c16_i32_779
  let c14_i32 : BitVec 32 := 14#32
  let v1493 : BitVec 32 := Scalar.addi v1492 c14_i32
  let c128_i32_780 : BitVec 32 := 128#32
  let v1494 : BitVec 32 := Scalar.muli v1493 c128_i32_780
  let c128_i32_781 : BitVec 32 := 128#32
  let v1495 : BitVec 32 := Scalar.subi v1494 c128_i32_781
  let c0_i32_782 : BitVec 32 := 0#32
  let v1496 : BitVec 32 := Scalar.maxsi v1495 c0_i32_782
  v1496
def k0_mult16 (i : grid0.Coords) : BitVec 32 :=
  let arg2 : BitVec 32 := BitVec.ofNat 32 (i 2).val
  let c16_i32_834 : BitVec 32 := 16#32
  let v1595 : BitVec 32 := Scalar.muli arg2 c16_i32_834
  let c15_i32 : BitVec 32 := 15#32
  let v1596 : BitVec 32 := Scalar.addi v1595 c15_i32
  let c128_i32_835 : BitVec 32 := 128#32
  let v1597 : BitVec 32 := Scalar.muli v1596 c128_i32_835
  let c128_i32_836 : BitVec 32 := 128#32
  let v1598 : BitVec 32 := Scalar.subi v1597 c128_i32_836
  let c0_i32_837 : BitVec 32 := 0#32
  let v1599 : BitVec 32 := Scalar.maxsi v1598 c0_i32_837
  v1599
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x4x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x64x80x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== ReferenceIdeal.lean ====
abbrev S4x8x8192x64 : Shape := ⟨4, ![4, 8, 8192, 64]⟩
abbrev S4x2x8192x64 : Shape := ⟨4, ![4, 2, 8192, 64]⟩
abbrev S8 : Shape := ⟨1, ![8]⟩
abbrev S1x2x4x1x1 : Shape := ⟨5, ![1, 2, 4, 1, 1]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S4x2x4x8192x64 : Shape := ⟨5, ![4, 2, 4, 8192, 64]⟩
abbrev S4x2x4x8192x8192 : Shape := ⟨5, ![4, 2, 4, 8192, 8192]⟩
abbrev S4x2x4x8192 : Shape := ⟨4, ![4, 2, 4, 8192]⟩
abbrev S4x2x4x8192x1 : Shape := ⟨5, ![4, 2, 4, 8192, 1]⟩
abbrev S4x8192x8x64 : Shape := ⟨4, ![4, 8192, 8, 64]⟩
abbrev S4x8192x512 : Shape := ⟨3, ![4, 8192, 512]⟩

abbrev nBuf : Space → Nat
  | .hbm => 60
  | .vmem => 0
  | .smem => 0
  | _ => 0

abbrev bufTy : (tb : Table) → Fin (tcTables nBuf tb) → BufTy
  | .hbm, ⟨0, _⟩ => ⟨S4x8x8192x64, .f32⟩
  | .hbm, ⟨1, _⟩ => ⟨S4x2x8192x64, .f32⟩
  | .hbm, ⟨2, _⟩ => ⟨S4x2x8192x64, .f32⟩
  | .hbm, ⟨3, _⟩ => ⟨S8, .f32⟩
  | .hbm, ⟨4, _⟩ => ⟨S1x2x4x1x1, .f32⟩
  | .hbm, ⟨5, _⟩ => ⟨S8192, .i32⟩
  | .hbm, ⟨6, _⟩ => ⟨S8192x1, .i32⟩
  | .hbm, ⟨7, _⟩ => ⟨S1x8192, .i32⟩
  | .hbm, ⟨8, _⟩ => ⟨S8192x8192, .i32⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i1⟩
  | .hbm, ⟨14, _⟩ => ⟨S_, .i32⟩
  | .hbm, ⟨15, _⟩ => ⟨S8192x8192, .i32⟩
  | .hbm, ⟨16, _⟩ => ⟨S8192x8192, .i1⟩
  | .hbm, ⟨17, _⟩ => ⟨S8192x8192, .i1⟩
  | .hbm, ⟨18, _⟩ => ⟨S4x2x4x8192x64, .f32⟩
  | .hbm, ⟨19, _⟩ => ⟨S4x2x4x8192x8192, .f32⟩
  | .hbm, ⟨20, _⟩ => ⟨S_, .f32⟩
  | .hbm, ⟨21, _⟩ => ⟨S4x2x4x8192x8192, .f32⟩
  | .hbm, ⟨22, _⟩ => ⟨S4x2x4x8192x8192, .f32⟩
  | .hbm, ⟨23, _⟩ => ⟨S_, .f32⟩
  | .hbm, ⟨24, _⟩ => ⟨S_, .f32⟩
  | .hbm, ⟨25, _⟩ => ⟨S4x2x4x8192x8192, .i1⟩
  | .hbm, ⟨26, _⟩ => ⟨S4x2x4x8192x8192, .f32⟩
  | .hbm, ⟨27, _⟩ => ⟨S4x2x4x8192x8192, .f32⟩
  | .hbm, ⟨28, _⟩ => ⟨S_, .f32⟩
  | .hbm, ⟨29, _⟩ => ⟨S4x2x4x8192, .f32⟩
  | .hbm, ⟨30, _⟩ => ⟨S4x2x4x8192x1, .f32⟩
  | .hbm, ⟨31, _⟩ => ⟨S4x2x4x8192x1, .f32⟩
  | .hbm, ⟨32, _⟩ => ⟨S4x2x4x8192x1, .f32⟩
  | .hbm, ⟨33, _⟩ => ⟨S4x2x4x8192x1, .f32⟩
  | .hbm, ⟨34, _⟩ => ⟨S_, .f32⟩
  | .hbm, ⟨35, _⟩ => ⟨S4x2x4x8192x1, .f32⟩
  | .hbm, ⟨36, _⟩ => ⟨S4x2x4x8192x1, .i1⟩
  | .hbm, ⟨37, _⟩ => ⟨S_, .f32⟩
  | .hbm, ⟨38, _⟩ => ⟨S_, .f32⟩
  | .hbm, ⟨39, _⟩ => ⟨S4x2x4x8192x1, .f32⟩
  | .hbm, ⟨40, _⟩ => ⟨S4x2x4x8192x1, .f32⟩
  | .hbm, ⟨41, _⟩ => ⟨S4x2x4x8192x8192, .f32⟩
  | .hbm, ⟨42, _⟩ => ⟨S4x2x4x8192x8192, .f32⟩
  | .hbm, ⟨43, _⟩ => ⟨S4x2x4x8192x8192, .f32⟩
  | .hbm, ⟨44, _⟩ => ⟨S_, .f32⟩
  | .hbm, ⟨45, _⟩ => ⟨S4x2x4x8192, .f32⟩
  | .hbm, ⟨46, _⟩ => ⟨S4x2x4x8192x1, .f32⟩
  | .hbm, ⟨47, _⟩ => ⟨S4x2x4x8192x1, .f32⟩
  | .hbm, ⟨48, _⟩ => ⟨S4x2x4x8192x1, .f32⟩
  | .hbm, ⟨49, _⟩ => ⟨S4x2x4x8192x1, .f32⟩
  | .hbm, ⟨50, _⟩ => ⟨S4x2x4x8192x1, .f32⟩
  | .hbm, ⟨51, _⟩ => ⟨S_, .f32⟩
  | .hbm, ⟨52, _⟩ => ⟨S4x2x4x8192x1, .f32⟩
  | .hbm, ⟨53, _⟩ => ⟨S4x2x4x8192x1, .f32⟩
  | .hbm, ⟨54, _⟩ => ⟨S4x2x4x8192x8192, .f32⟩
  | .hbm, ⟨55, _⟩ => ⟨S4x2x4x8192x8192, .f32⟩
  | .hbm, ⟨56, _⟩ => ⟨S4x2x4x8192x64, .f32⟩
  | .hbm, ⟨57, _⟩ => ⟨S4x8x8192x64, .f32⟩
  | .hbm, ⟨58, _⟩ => ⟨S4x8192x8x64, .f32⟩
  | .hbm, ⟨59, _⟩ => ⟨S4x8192x512, .f32⟩
  | _, _ => ⟨S4x8x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4x8192x1024 : Shape := ⟨3, ![4, 8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x8192x2816, .f32⟩
  | .hbm, ⟨22, _⟩ => ⟨S4x8192x2816, .f32⟩
  | .hbm, ⟨23, _⟩ => ⟨S4x8192x2816, .f32⟩
  | .hbm, ⟨24, _⟩ => ⟨S_, .f32⟩
  | .hbm, ⟨25, _⟩ => ⟨S4x8192x2816, .f32⟩
  | .hbm, ⟨26, _⟩ => ⟨S4x8192x2816, .f32⟩
  | .hbm, ⟨27, _⟩ => ⟨S_, .f32⟩
  | .hbm, ⟨28, _⟩ => ⟨S4x8192x2816, .f32⟩
  | .hbm, ⟨29, _⟩ => ⟨S4x8192x2816, .f32⟩
  | .hbm, ⟨30, _⟩ => ⟨S4x8192x2816, .f32⟩
  | .hbm, ⟨31, _⟩ => ⟨S4x8192x2816, .f32⟩
  | .hbm, ⟨32, _⟩ => ⟨S4x8192x2816, .f32⟩
  | .hbm, ⟨33, _⟩ => ⟨S4x8192x1024, .f32⟩
  | .hbm, ⟨34, _⟩ => ⟨S_, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x9240 : Shape := ⟨2, ![1024, 9240]⟩
abbrev S4096 : Shape := ⟨1, ![4096]⟩
abbrev S4x8192x512 : Shape := ⟨3, ![4, 8192, 512]⟩
abbrev S4x512x1024 : Shape := ⟨3, ![4, 512, 1024]⟩
abbrev S1024x1024 : Shape := ⟨2, ![1024, 1024]⟩
abbrev S32768x1024 : Shape := ⟨2, ![32768, 1024]⟩
abbrev S1024x4096 : Shape := ⟨2, ![1024, 4096]⟩
abbrev S1x1024 : Shape := ⟨2, ![1, 1024]⟩
abbrev S1x4096 : Shape := ⟨2, ![1, 4096]⟩
abbrev S32768x512 : Shape := ⟨2, ![32768, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 26
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x9240, .f32⟩
  | .hbm, ⟨3, _⟩ => ⟨S4096, .f32⟩
  | .hbm, ⟨4, _⟩ => ⟨S4x8192x512, .f32⟩
  | .hbm, ⟨5, _⟩ => ⟨S4x8192x512, .f32⟩
  | .hbm, ⟨6, _⟩ => ⟨S4x8192x512, .f32⟩
  | .hbm, ⟨7, _⟩ => ⟨S4x8192x512, .f32⟩
  | .hbm, ⟨8, _⟩ => ⟨S4x8192x512, .f32⟩
  | .hbm, ⟨9, _⟩ => ⟨S4x8192x512, .f32⟩
  | .hbm, ⟨10, _⟩ => ⟨S4x512x1024, .f32⟩
  | .hbm, ⟨11, _⟩ => ⟨S1024x1024, .f32⟩
  | .hbm, ⟨12, _⟩ => ⟨S32768x1024, .f32⟩
  | .hbm, ⟨13, _⟩ => ⟨S1024x4096, .f32⟩
  | .hbm, ⟨14, _⟩ => ⟨S1x1024, .f32⟩
  | .hbm, ⟨15, _⟩ => ⟨S1024x4096, .bf16⟩
  | .hbm, ⟨16, _⟩ => ⟨S1x4096, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S4x512x1024, .bf16⟩
  | .hbm, ⟨24, _⟩ => ⟨S1024x1024, .bf16⟩
  | .hbm, ⟨25, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x4096, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S4x512x1024, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4x8192x1024 : Shape := ⟨3, ![4, 8192, 1024]⟩
abbrev S1024 : Shape := ⟨1, ![1024]⟩
abbrev S1024x9240 : Shape := ⟨2, ![1024, 9240]⟩
abbrev S4096 : Shape := ⟨1, ![4096]⟩
abbrev S4x8192x512 : Shape := ⟨3, ![4, 8192, 512]⟩
abbrev S4x512x1024 : Shape := ⟨3, ![4, 512, 1024]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x9240 : Shape := ⟨3, ![4, 8192, 9240]⟩
abbrev S4x8192x4096 : Shape := ⟨3, ![4, 8192, 4096]⟩
abbrev S4x8192x1x512 : Shape := ⟨4, ![4, 8192, 1, 512]⟩
abbrev S4x8192x4x512 : Shape := ⟨4, ![4, 8192, 4, 512]⟩
abbrev S4x1024x4x8192 : Shape := ⟨4, ![4, 1024, 4, 8192]⟩
abbrev S4x8192x4x1024 : Shape := ⟨4, ![4, 8192, 4, 1024]⟩
abbrev S1x1x4096 : Shape := ⟨3, ![1, 1, 4096]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x9240, .f32⟩
  | .hbm, ⟨3, _⟩ => ⟨S4096, .f32⟩
  | .hbm, ⟨4, _⟩ => ⟨S4x8192x512, .f32⟩
  | .hbm, ⟨5, _⟩ => ⟨S4x8192x512, .f32⟩
  | .hbm, ⟨6, _⟩ => ⟨S4x8192x512, .f32⟩
  | .hbm, ⟨7, _⟩ => ⟨S4x8192x512, .f32⟩
  | .hbm, ⟨8, _⟩ => ⟨S4x8192x512, .f32⟩
  | .hbm, ⟨9, _⟩ => ⟨S4x8192x512, .f32⟩
  | .hbm, ⟨10, _⟩ => ⟨S4x512x1024, .f32⟩
  | .hbm, ⟨11, _⟩ => ⟨S1024x1024, .f32⟩
  | .hbm, ⟨12, _⟩ => ⟨S4x8192x1024, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S1x1x1024, .f32⟩
  | .hbm, ⟨26, _⟩ => ⟨S4x8192x1024, .f32⟩
  | .hbm, ⟨27, _⟩ => ⟨S4x8192x1024, .f32⟩
  | .hbm, ⟨28, _⟩ => ⟨S4x8192x9240, .f32⟩
  | .hbm, ⟨29, _⟩ => ⟨S4x8192x4096, .f32⟩
  | .hbm, ⟨30, _⟩ => ⟨S4x8192x512, .f32⟩
  | .hbm, ⟨31, _⟩ => ⟨S4x8192x512, .f32⟩
  | .hbm, ⟨32, _⟩ => ⟨S4x8192x1x512, .f32⟩
  | .hbm, ⟨33, _⟩ => ⟨S4x8192x1x512, .f32⟩
  | .hbm, ⟨34, _⟩ => ⟨S4x8192x1x512, .f32⟩
  | .hbm, ⟨35, _⟩ => ⟨S4x8192x1x512, .f32⟩
  | .hbm, ⟨36, _⟩ => ⟨S4x8192x4x512, .f32⟩
  | .hbm, ⟨37, _⟩ => ⟨S4x1024x4x8192, .f32⟩
  | .hbm, ⟨38, _⟩ => ⟨S4x8192x4x1024, .f32⟩
  | .hbm, ⟨39, _⟩ => ⟨S1x1x4096, .f32⟩
  | .hbm, ⟨40, _⟩ => ⟨S4x8192x4096, .f32⟩
  | .hbm, ⟨41, _⟩ => ⟨S4x8192x4096, .f32⟩
  | .hbm, ⟨42, _⟩ => ⟨S4x8192x4096, .f32⟩
  | .hbm, ⟨43, _⟩ => ⟨S4x8192x4096, .f32⟩
  | .hbm, ⟨44, _⟩ => ⟨S_, .f32⟩
  | .hbm, ⟨45, _⟩ => ⟨S4x8192x4096, .f32⟩
  | .hbm, ⟨46, _⟩ => ⟨S4x8192x4096, .f32⟩
  | .hbm, ⟨47, _⟩ => ⟨S_, .f32⟩
  | .hbm, ⟨48, _⟩ => ⟨S4x8192x4096, .f32⟩
  | .hbm, ⟨49, _⟩ => ⟨S4x8192x4096, .f32⟩
  | .hbm, ⟨50, _⟩ => ⟨S4x8192x4x1024, .f32⟩
  | .hbm, ⟨51, _⟩ => ⟨S4x8192x4x1024, .f32⟩
  | .hbm, ⟨52, _⟩ => ⟨S_, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Proof.SwaTile.lean ====
module

public import proofs.«01_k».proof.Proof.Gen.KernelIdeal.Value
public import Idealize.ShloMosaic.Lib.Pipeline.ValueKit
public import Idealize.ShloMosaic.Lib.Pointwise
public import Idealize.ShloMosaic.Lib.UnfoldOut

@[expose] public section

set_option maxRecDepth 16384

noncomputable section

namespace Cert.SwaValue

open Cert.KernelIdeal Cert.KernelIdeal.Gen Idealize.ShloMosaic Idealize.ShloMosaic.TcCoe Idealize.SL.Sem
open Idealize.ShloMosaic.Pipeline (Dat)

/-- The row of sinks, one per lane of the four heads, times the named constant. -/
def sinks (s : Fin 4 → EReal) : FVec Ideal S1x512 .f32 :=
  k0_pay4 (F := Ideal) (k0_pay2 (F := Ideal) (s 0) (s 1) (s 2)) k0_pay3 (s 3)

/-- The scores of a tile, with the band. -/
def scores (g u v : BitVec 32) (k : Vec Ideal S1x256x128 .bf16) (q : Fin 4 → Vec Ideal S1x1x64x128 .f32) : FVec Ideal S256x512 .f32 :=
  k0_pay8 (F := Ideal) (iota .tc S256x128 32 [0] iota_S256x128_d0_w32) (iota .tc S256x128 32 [1] iota_S256x128_d1_w32) u v
    (k0_pay5 (F := Ideal) k) (k0_pay6 (F := Ideal) (q 0) (q 1) (q 2) (q 3)) (k0_pay7 (F := Ideal)) (Scalar.cmpi .eq g 0#32)

/-- The maximum of each lane's scores and sink. -/
def tops (g u v : BitVec 32) (s : Fin 4 → EReal) (k : Vec Ideal S1x256x128 .bf16) (q : Fin 4 → Vec Ideal S1x1x64x128 .f32) : FVec Ideal S1x512 .f32 :=
  k0_pay9 (F := Ideal) (sinks s) (iota .tc S256x128 32 [0] iota_S256x128_d0_w32) (iota .tc S256x128 32 [1] iota_S256x128_d1_w32) u v
    (k0_pay5 (F := Ideal) k) (k0_pay6 (F := Ideal) (q 0) (q 1) (q 2) (q 3)) (k0_pay7 (F := Ideal)) (Scalar.cmpi .eq g 0#32)

/-- The weights of a tile. -/
def weights (g u v : BitVec 32) (s : Fin 4 → EReal) (k : Vec Ideal S1x256x128 .bf16) (q : Fin 4 → Vec Ideal S1x1x64x128 .f32) : FVec Ideal S256x512 .bf16 :=
  k0_pay10 (F := Ideal) (sinks s) (iota .tc S256x128 32 [0] iota_S256x128_d0_w32) (iota .tc S256x128 32 [1] iota_S256x128_d1_w32) u v
    (k0_pay5 (F := Ideal) k) (k0_pay6 (F := Ideal) (q 0) (q 1) (q 2) (q 3)) (k0_pay7 (F := Ideal)) (Scalar.cmpi .eq g 0#32)

/-- One tile of the output: 128 queries of four heads, from the sinks, the band's keys and its two tiles of values. -/
def tile (g u v : BitVec 32) (s : Fin 4 → EReal) (k : Vec Ideal S1x256x128 .bf16) (q : Fin 4 → Vec Ideal S1x1x64x128 .f32)
    (v0 v1 : Vec Ideal S1x1x1x80x128 .bf16) : FVec Ideal S1x128x256 .f32 :=
  k0_pay11 (F := Ideal) (sinks s) (tops g u v s k q) (weights g u v s k q) v0 v1

/-- The number of a tile, as the kernel computes it. -/
def tileWord (i : grid0.Coords) (n : Fin 16) : BitVec 32 := Scalar.addi (Scalar.muli (BitVec.ofNat 32 (i 2).val) 16#32) (BitVec.ofNat 32 n.val)
/-- The first key a tile reads, as the kernel computes it. -/
def startWord (i : grid0.Coords) (n : Fin 16) : BitVec 32 := Scalar.maxsi (Scalar.subi (Scalar.muli (tileWord i n) 128#32) 128#32) 0#32

theorem q_inb (n : Fin 16) (r : Fin 4) : ∀ a, (![0, r.val, 0, 128 * n.val] : Fin 4 → ℕ) a + S1x1x64x128.size a ≤ S1x4x64x2048.size a := by
  intro a; fin_cases a <;> simp <;> omega

/-- Tile `n` of a grid point, from the point's blocks. -/
def tileOf (i : grid0.Coords) (n : Fin 16) (x0 : Vec Ideal S8 .f32) (x1 : Vec Ideal S1x4x64x2048 .f32) (x2 : Vec Ideal S1x8192x128 .bf16)
    (x3 : Vec Ideal S1x1x64x80x128 .bf16) : FVec Ideal S1x128x256 .f32 :=
  tile (BitVec.ofNat 32 (i 1).val) (tileWord i n) (startWord i n)
    (fun r => View.ld x0 (Rect.unit (s := S8) (k0_off1 i (BitVec.ofNat 32 r.val)) S1.size (k0_off1_inb i r)) (Shape.Idx.first (s := S1) (by decide)))
    (View.ld x2 (Rect.unit (s := S1x8192x128) (k0_off2 i (BitVec.ofNat 32 n.val)) S1x256x128.size (k0_off2_inb i n)))
    (fun r => View.ld x1 (Rect.unit (s := S1x4x64x2048) ![0, r.val, 0, 128 * n.val] S1x1x64x128.size (q_inb n r)))
    (View.ld x3 (Rect.unit (s := S1x1x64x80x128) (k0_off3 i (BitVec.ofNat 32 n.val)) S1x1x1x80x128.size (k0_off3_inb i n)))
    (View.ld x3 (Rect.unit (s := S1x1x64x80x128) (k0_off4 i (BitVec.ofNat 32 n.val)) S1x1x1x80x128.size (k0_off4_inb i n)))

variable (m : (ℓ : Loc nD τ sig) → Buf (Elt Ideal) ℓ)

theorem outs_eq (c : Dev nD) (t : Fin cfg0.N) (y : S1x2048x256.Idx) (n : Fin 16) (hn : (n : ℕ) = (y 1 : ℕ) / 128)
    (z : S1x128x256.Idx) (hz0 : (z 0 : ℕ) = y 0) (hz1 : (z 1 : ℕ) = (y 1 : ℕ) % 128) (hz2 : (z 2 : ℕ) = y 2) :
    outsAt0 m c t y = tileOf (grid0.coords t) n (iblk m c 0 t) (iblk m c 1 t) (iblk m c 2 t) (iblk m c 3 t) z := by
  unfold outsAt0
  frame_out
  canon_tiles x h
  all_goals (obtain rfl : z = x := funext fun a => Fin.ext (by fin_cases a <;> simp <;> omega))
  case piece0 =>
    obtain rfl : n = 15 := Fin.ext (by simp; omega)
    rfl
  case piece1 =>
    obtain rfl : n = 14 := Fin.ext (by simp; omega)
    rfl
  case piece2 =>
    obtain rfl : n = 13 := Fin.ext (by simp; omega)
    rfl
  case piece3 =>
    obtain rfl : n = 12 := Fin.ext (by simp; omega)
    rfl
  case piece4 =>
    obtain rfl : n = 11 := Fin.ext (by simp; omega)
    rfl
  case piece5 =>
    obtain rfl : n = 10 := Fin.ext (by simp; omega)
    rfl
  case piece6 =>
    obtain rfl : n = 9 := Fin.ext (by simp; omega)
    rfl
  case piece7 =>
    obtain rfl : n = 8 := Fin.ext (by simp; omega)
    rfl
  case piece8 =>
    obtain rfl : n = 7 := Fin.ext (by simp; omega)
    rfl
  case piece9 =>
    obtain rfl : n = 6 := Fin.ext (by simp; omega)
    rfl
  case piece10 =>
    obtain rfl : n = 5 := Fin.ext (by simp; omega)
    rfl
  case piece11 =>
    obtain rfl : n = 4 := Fin.ext (by simp; omega)
    rfl
  case piece12 =>
    obtain rfl : n = 3 := Fin.ext (by simp; omega)
    rfl
  case piece13 =>
    obtain rfl : n = 2 := Fin.ext (by simp; omega)
    rfl
  case piece14 =>
    obtain rfl : n = 1 := Fin.ext (by simp; omega)
    rfl
  case piece15 =>
    obtain rfl : n = 0 := Fin.ext (by simp; omega)
    rfl

end Cert.SwaValue
end
-- ==== Proof.WindowSpec.lean ====
/- The mathematics of one row of windowed attention over the extended reals: the row over all keys with the ones outside
   its window masked to minus infinity, against the row over a run of consecutive keys that holds the window, in base two
   and divided once at the end. -/
module

public import Idealize.ShloMosaic.PureOps.Ideal
public import Mathlib.Data.EReal.Operations
public import Mathlib.Analysis.SpecialFunctions.Pow.Real

@[expose] public section

noncomputable section

namespace Cert.Window

open Idealize.ShloMosaic
open scoped BigOperators

/-- `1 / log 2`, the factor from natural to base-two exponents. -/
def L : ℝ := (Real.log 2)⁻¹

theorem L_pos : 0 < L := inv_pos.mpr (Real.log_pos (by norm_num))

/-- Does the query at `t` see the key at `k`? -/
def sees (w t k : ℕ) : Prop := k ≤ t ∧ t < k + w

instance (w t k : ℕ) : Decidable (sees w t k) := by unfold sees; infer_instance

/-- The running maximum is the supremum. -/
theorem fold_max {n : ℕ} (f : Fin n → EReal) : (Finset.univ : Finset (Fin n)).fold max ⊥ f = Finset.univ.sup f := rfl

/-- The masked score of key `k`. -/
def score (w t : ℕ) {n : ℕ} (s : Fin n → ℝ) (k : Fin n) : EReal := if sees w t k then ((s k : ℝ) : EReal) else ⊥

/-- The row's maximum, the sink's score `x` among the scores (`⊥` where there is none). -/
def top (w t : ℕ) {n : ℕ} (s : Fin n → ℝ) (x : EReal) : EReal := max (Finset.univ.sup (score w t s)) x

/-- The row over all keys. -/
def dense (w t : ℕ) {n : ℕ} (s : Fin n → ℝ) (v : Fin n → EReal) (x ε : EReal) : EReal :=
  ∑ k, Ideal.div (Ideal.exp (score w t s k - top w t s x))
    (max (∑ k, Ideal.exp (score w t s k - top w t s x) + Ideal.exp (x - top w t s x)) ε) * v k

/-- The masked score, in base two, of the run's key `j`. -/
def bscore (w t : ℕ) {n p : ℕ} (s : Fin n → ℝ) (ι : Fin p → Fin n) (j : Fin p) : EReal :=
  if sees w t (ι j) then ((s (ι j) * L : ℝ) : EReal) else ⊥

/-- The run's maximum. -/
def btop (w t : ℕ) {n p : ℕ} (s : Fin n → ℝ) (ι : Fin p → Fin n) (x : EReal) : EReal :=
  max (Finset.univ.sup (bscore w t s ι)) (x * (L : EReal))

/-- The row over the run of keys `ι`. -/
def run (w t : ℕ) {n p : ℕ} (s : Fin n → ℝ) (ι : Fin p → Fin n) (v : Fin n → EReal) (x ε : EReal) : EReal :=
  Ideal.div (∑ j, v (ι j) * Ideal.exp2 (bscore w t s ι j - btop w t s ι x))
    (max (∑ j, Ideal.exp2 (bscore w t s ι j - btop w t s ι x) + Ideal.exp2 (x * (L : EReal) - btop w t s ι x)) ε)

theorem exp2_mul_L (r : ℝ) : Ideal.exp2 ((r * L : ℝ) : EReal) = Ideal.exp (r : EReal) := by
  show ((Real.rpow 2 (r * L) : ℝ) : EReal) = ((Real.exp r : ℝ) : EReal)
  congr 1
  show (2 : ℝ) ^ (r * L) = Real.exp r
  rw [Real.rpow_def_of_pos (by norm_num)]
  congr 1
  have : Real.log 2 ≠ 0 := (Real.log_pos (by norm_num)).ne'
  unfold L
  field_simp

theorem top_real {w t n : ℕ} (s : Fin n → ℝ) (x : EReal) (hx : x ≠ ⊤) (k₀ : Fin n) (h₀ : sees w t k₀) :
    ∃ r : ℝ, top w t s x = (r : EReal) := by
  have h1 : top w t s x ≠ ⊥ := by
    intro h
    have : ((s k₀ : ℝ) : EReal) ≤ top w t s x := by
      refine le_trans ?_ (le_max_left _ _)
      have := Finset.le_sup (f := score w t s) (Finset.mem_univ k₀)
      rwa [score, if_pos h₀] at this
    rw [h] at this
    exact absurd (le_bot_iff.mp this) (EReal.coe_ne_bot _)
  have h2 : top w t s x ≠ ⊤ := by
    unfold top
    refine (max_lt ?_ (lt_top_iff_ne_top.mpr hx)).ne
    refine (Finset.sup_lt_iff (by decide)).mpr fun k _ => ?_
    unfold score; split
    · exact EReal.coe_lt_top _
    · exact bot_lt_top
  exact ⟨(top w t s x).toReal, (EReal.coe_toReal h2 h1).symm⟩

/-- The run's maximum is the row's, in base two. -/
theorem btop_eq {w t n p : ℕ} (s : Fin n → ℝ) (ι : Fin p → Fin n) (x : EReal) (hι : ∀ k : Fin n, sees w t k → ∃ j, ι j = k) :
    btop w t s ι x = top w t s x * (L : EReal) := by
  have hL : (0 : EReal) ≤ (L : EReal) := by exact_mod_cast L_pos.le
  have hmono : Monotone fun y : EReal => y * (L : EReal) := fun a b h => mul_le_mul_of_nonneg_right h hL
  have hb : (⊥ : EReal) * (L : EReal) = ⊥ := EReal.bot_mul_coe_of_pos L_pos
  unfold btop top
  rw [hmono.map_max]
  congr 1
  rw [Finset.comp_sup_eq_sup_comp_of_is_total (fun y : EReal => y * (L : EReal)) hmono hb]
  apply le_antisymm
  · refine Finset.sup_le fun j _ => ?_
    refine le_trans ?_ (Finset.le_sup (Finset.mem_univ (ι j)))
    show bscore w t s ι j ≤ score w t s (ι j) * (L : EReal)
    unfold bscore score
    split
    · rw [EReal.coe_mul]
    · rw [hb]
  · refine Finset.sup_le fun k _ => ?_
    show score w t s k * (L : EReal) ≤ _
    unfold score
    split
    · rename_i h
      obtain ⟨j, rfl⟩ := hι k h
      refine le_trans ?_ (Finset.le_sup (Finset.mem_univ j))
      unfold bscore
      rw [if_pos h, EReal.coe_mul]
    · rw [hb]; exact bot_le

theorem bexp_eq {w t n p : ℕ} (s : Fin n → ℝ) (ι : Fin p → Fin n) (r : ℝ) (j : Fin p) :
    Ideal.exp2 (bscore w t s ι j - (r : EReal) * (L : EReal)) = Ideal.exp (score w t s (ι j) - (r : EReal)) := by
  unfold bscore score
  split
  · rw [← EReal.coe_mul, ← EReal.coe_sub, ← EReal.coe_sub, ← sub_mul, exp2_mul_L]
  · rw [← EReal.coe_mul]; rfl

theorem sum_run {n p : ℕ} (ι : Fin p → Fin n) (hinj : Function.Injective ι) (f : Fin n → EReal)
    (h : ∀ k, (∀ j, ι j ≠ k) → f k = 0) : ∑ k, f k = ∑ j, f (ι j) := by
  rw [show ∑ j, f (ι j) = ∑ k ∈ (Finset.univ : Finset (Fin p)).map ⟨ι, hinj⟩, f k from
    (Finset.sum_map (Finset.univ : Finset (Fin p)) ⟨ι, hinj⟩ f).symm]
  symm
  refine Finset.sum_subset (Finset.subset_univ _) fun k _ hk => h k fun j hj => hk ?_
  exact Finset.mem_map.mpr ⟨j, Finset.mem_univ _, hj⟩

theorem sum_mul_real {n : ℕ} (f : Fin n → EReal) (c : EReal) (h0 : 0 ≤ c) (ht : c ≠ ⊤) : ∑ k, f k * c = (∑ k, f k) * c := by
  classical
  induction (Finset.univ : Finset (Fin n)) using Finset.induction_on with
  | empty => simp
  | insert a s ha ih => rw [Finset.sum_insert ha, Finset.sum_insert ha, ih, EReal.right_distrib_of_nonneg_of_ne_top h0 ht]

theorem exp_ne_top {y : EReal} (h : y ≠ ⊤) : Ideal.exp y ≠ ⊤ := by
  induction y with
  | bot => exact EReal.zero_ne_top
  | top => exact absurd rfl h
  | coe r => exact EReal.coe_ne_top _

/-- The row over a run of keys that holds the window is the row over all keys. -/
theorem run_eq_dense {w t n p : ℕ} (s : Fin n → ℝ) (ι : Fin p → Fin n) (v : Fin n → EReal) (x ε : EReal) (hx : x ≠ ⊤)
    (hε : 0 < ε) (hε' : ε ≠ ⊤) (hinj : Function.Injective ι) (hι : ∀ k : Fin n, sees w t k → ∃ j, ι j = k)
    (k₀ : Fin n) (h₀ : sees w t k₀) : run w t s ι v x ε = dense w t s v x ε := by
  obtain ⟨r, hr⟩ := top_real s x hx k₀ h₀
  have hout : ∀ k, (∀ j, ι j ≠ k) → Ideal.exp (score w t s k - (r : EReal)) = 0 := by
    intro k hk
    have : ¬ sees w t k := fun h => by obtain ⟨j, hj⟩ := hι k h; exact hk j hj
    unfold score
    rw [if_neg this]; rfl
  have hsink : Ideal.exp2 (x * (L : EReal) - (r : EReal) * (L : EReal)) = Ideal.exp (x - (r : EReal)) := by
    induction x with
    | bot => rw [EReal.bot_mul_coe_of_pos L_pos, ← EReal.coe_mul]; rfl
    | top => exact absurd rfl hx
    | coe y => rw [← EReal.coe_mul, ← EReal.coe_mul, ← EReal.coe_sub, ← EReal.coe_sub, ← sub_mul, exp2_mul_L]
  have hsub : ∀ y : EReal, y ≠ ⊤ → y - (r : EReal) ≠ ⊤ := by
    intro y hy
    induction y with
    | bot => exact bot_ne_top
    | top => exact absurd rfl hy
    | coe y => rw [← EReal.coe_sub]; exact EReal.coe_ne_top _
  have hscore : ∀ k, score w t s k ≠ ⊤ := by
    intro k; unfold score; split
    · exact EReal.coe_ne_top _
    · exact bot_ne_top
  unfold run dense
  rw [btop_eq s ι x hι, hr]
  simp only [bexp_eq, hsink]
  rw [← sum_run ι hinj (fun k => Ideal.exp (score w t s k - (r : EReal))) hout,
    ← sum_run ι hinj (fun k => v k * Ideal.exp (score w t s k - (r : EReal))) (fun k hk => by rw [hout k hk, mul_zero])]
  set D : EReal := max (∑ k, Ideal.exp (score w t s k - (r : EReal)) + Ideal.exp (x - (r : EReal))) ε with hD
  have hDpos : 0 < D := lt_of_lt_of_le hε (le_max_right _ _)
  have hDtop : D ≠ ⊤ := by
    refine (max_lt ?_ (lt_top_iff_ne_top.mpr hε')).ne
    refine EReal.add_lt_top ?_ (exp_ne_top (hsub x hx))
    classical
    have : ∀ S : Finset (Fin n), ∑ k ∈ S, Ideal.exp (score w t s k - (r : EReal)) ≠ ⊤ := by
      intro S
      induction S using Finset.induction_on with
      | empty => simp
      | insert a S ha ih => rw [Finset.sum_insert ha]; exact (EReal.add_lt_top (exp_ne_top (hsub _ (hscore a))) ih).ne
    exact this _
  have hinv0 : 0 ≤ D⁻¹ := EReal.inv_nonneg_of_nonneg hDpos.le
  have hinvt : D⁻¹ ≠ ⊤ := by
    obtain ⟨d, hd⟩ : ∃ d : ℝ, D = (d : EReal) := ⟨D.toReal, (EReal.coe_toReal hDtop (ne_of_gt (lt_trans EReal.bot_lt_zero hDpos))).symm⟩
    rw [hd, ← EReal.coe_inv]; exact EReal.coe_ne_top _
  have hdiv : ∀ y, Ideal.div y D = y * D⁻¹ := fun y => by unfold Ideal.div; rw [if_neg hDpos.ne']
  simp only [hdiv]
  rw [← sum_mul_real _ _ hinv0 hinvt]
  refine Finset.sum_congr rfl fun k _ => ?_
  rw [mul_comm (v k), mul_assoc, mul_comm (v k), mul_assoc]

end Cert.Window

end
-- ==== Proof.WindowWords.lean ====
module

public import proofs.«01_k».proof.Proof.WindowSpec
public import Idealize.ShloMosaic.Lib.ValueIdxCore
public import Idealize.ShloMosaic.Lib.Pointwise
public import Idealize.ShloMosaic.Lib.Tactic.WordOmega

@[expose] public section

set_option maxRecDepth 16384

noncomputable section

namespace Cert.Window

open Idealize.ShloMosaic
open scoped BigOperators

theorem ofBits_bot : Ideal.ofBits FTy.f32 0xFF800000#32 = ⊥ := by
  simp [Ideal.ofBits, Ideal.ieee]

/-- A lane's place in a range of lanes. -/
theorem lane_in {α : Type} (n lo hi : ℕ) (hn : n < 512) (hlo : lo < 1024) (hhi : hi < 1024) (x y : α) :
    Scalar.select (IntOp.andi (IntOp.cmpi .sge (BitVec.ofNat 32 n) (BitVec.ofNat 32 lo)) (IntOp.cmpi .slt (BitVec.ofNat 32 n) (BitVec.ofNat 32 hi))) x y
      = if lo ≤ n ∧ n < hi then x else y := by
  unfold Scalar.select
  refine if_congr ?_ rfl rfl
  word_omega

/-- The band's test on words is the test on numbers. -/
theorem band_iff (U V a j W : ℕ) (hU : U < 64) (hV : V ≤ 8192) (ha : a < 128) (hj : j < 1024) (hW : W ≤ 1024) :
    (IntOp.andi
      (IntOp.cmpi .sge (IntOp.subi (IntOp.addi (Scalar.subi (Scalar.muli (BitVec.ofNat 32 U) 128#32) (BitVec.ofNat 32 V)) (BitVec.ofNat 32 a)) (BitVec.ofNat 32 j)) 0#32)
      (IntOp.cmpi .slt (IntOp.subi (IntOp.addi (Scalar.subi (Scalar.muli (BitVec.ofNat 32 U) 128#32) (BitVec.ofNat 32 V)) (BitVec.ofNat 32 a)) (BitVec.ofNat 32 j)) (BitVec.ofNat 32 W)))
      = 1 ↔ sees W (128 * U + a) (V + j) := by
  have hw : (IntOp.subi (IntOp.addi (Scalar.subi (Scalar.muli (BitVec.ofNat 32 U) 128#32) (BitVec.ofNat 32 V)) (BitVec.ofNat 32 a)) (BitVec.ofNat 32 j)).toInt
      = 128 * (U : ℤ) - V + a - j := by
    have hn : (IntOp.subi (IntOp.addi (Scalar.subi (Scalar.muli (BitVec.ofNat 32 U) 128#32) (BitVec.ofNat 32 V)) (BitVec.ofNat 32 a)) (BitVec.ofNat 32 j)).toNat
        = (128 * U + a + (2 ^ 32 - V) + (2 ^ 32 - j)) % 2 ^ 32 := by
      simp only [IntOp.subi, IntOp.addi, Scalar.subi, Scalar.muli, IntOp.muli, BitVec.toNat_sub, BitVec.toNat_add, BitVec.toNat_mul, BitVec.toNat_ofNat]
      omega
    rw [BitVec.toInt_eq_toNat_cond, hn]
    split_ifs <;> omega
  have hW' : (BitVec.ofNat 32 W).toInt = W := by
    rw [BitVec.toInt_eq_toNat_cond, BitVec.toNat_ofNat]
    split_ifs <;> omega
  unfold sees
  rw [WordCmp.cmpi_sge_eq, WordCmp.cmpi_slt_eq, hw, hW', show (0#32 : BitVec 32).toInt = 0 from rfl]
  by_cases h1 : (0 : ℤ) ≤ 128 * (U : ℤ) - V + a - j
  · by_cases h2 : 128 * (U : ℤ) - V + a - j < W
    · rw [decide_eq_true h1, decide_eq_true h2]; exact iff_of_true rfl (by omega)
    · rw [decide_eq_true h1, decide_eq_false h2]; exact iff_of_false (by decide) (by omega)
  · by_cases h2 : 128 * (U : ℤ) - V + a - j < W
    · rw [decide_eq_false h1, decide_eq_true h2]; exact iff_of_false (by decide) (by omega)
    · rw [decide_eq_false h1, decide_eq_false h2]; exact iff_of_false (by decide) (by omega)

/-- Four lots of lanes side by side, read at a lane of the lot `r`. -/
theorem lanes {α : Type} (f : Fin 4 → Fin 128 → α) (r : Fin 4) (a : Fin 128) :
    (if h : 128 * r.val + a.val < 128 then f 0 ⟨128 * r.val + a.val, h⟩ else
      if h : 128 * r.val + a.val - 128 < 128 then f 1 ⟨128 * r.val + a.val - 128, h⟩ else
        if h : 128 * r.val + a.val - 128 - 128 < 128 then f 2 ⟨128 * r.val + a.val - 128 - 128, h⟩
        else f 3 ⟨128 * r.val + a.val - 128 - 128 - 128, by omega⟩) = f r a := by
  obtain ⟨r, hr⟩ := r
  obtain rfl | rfl | rfl | rfl : r = 0 ∨ r = 1 ∨ r = 2 ∨ r = 3 := by omega
  · rw [dif_pos (by simp)]; exact congrArg (f _) (Fin.ext (by simp))
  · rw [dif_neg (by simp), dif_pos (by simp)]; exact congrArg (f _) (Fin.ext (by simp))
  · rw [dif_neg (by simp; omega), dif_neg (by simp; omega), dif_pos (by simp; omega)]; exact congrArg (f _) (Fin.ext (by simp; omega))
  · rw [dif_neg (by simp; omega), dif_neg (by simp; omega), dif_neg (by simp; omega)]; exact congrArg (f _) (Fin.ext (by simp; omega))

/-- The padded contraction is the one over the head's own half. -/
theorem sum_half (g : Fin 2) (f : Fin 128 → EReal) (q : Fin 64 → EReal) :
    (∑ x : Fin 128, f x * if h : 64 * g.val ≤ x.val ∧ x.val < 64 * g.val + 64 then q ⟨x.val - 64 * g.val, by omega⟩ else 0)
      = ∑ e : Fin 64, f ⟨64 * g.val + e.val, by omega⟩ * q e := by
  rw [Fin.sum_univ_two_halves 64 64 rfl]
  obtain ⟨g, hg⟩ := g
  obtain rfl | rfl : g = 0 ∨ g = 1 := by omega
  · refine (congrArg₂ (· + ·) (Finset.sum_congr rfl fun x _ => ?_) (Finset.sum_eq_zero fun x _ => ?_)).trans (add_zero _)
    · rw [dif_pos ⟨by simp, by simp⟩]; simp
    · rw [dif_neg (by simp), mul_zero]
  · refine (congrArg₂ (· + ·) (Finset.sum_eq_zero fun x _ => ?_) (Finset.sum_congr rfl fun x _ => ?_)).trans (zero_add _)
    · rw [dif_neg (by simp), mul_zero]
    · rw [dif_pos ⟨by simp, by simp; omega⟩]; simp

/-- The real score of a query and a key. -/
def dotScore (q k : Fin 64 → EReal) : ℝ := (∑ d, (q d).toReal * (k d).toReal) * (1 / 8)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A number that is neither infinity. -/
def IsReal (x : EReal) : Prop := x ≠ ⊤ ∧ x ≠ ⊥

theorem IsReal.coe {x : EReal} (h : IsReal x) : ((x.toReal : ℝ) : EReal) = x := EReal.coe_toReal h.1 h.2

/-- The kernel's scores, the queries scaled first. -/
theorem scaled_dot (q k : Fin 64 → EReal) (hq : ∀ d, IsReal (q d)) (hk : ∀ d, IsReal (k d)) :
    (∑ d, k d * (q d * ((1 / 8 * (Real.log 2)⁻¹ : ℝ) : EReal))) = ((dotScore q k * L : ℝ) : EReal) := by
  have : ∀ d, k d * (q d * ((1 / 8 * (Real.log 2)⁻¹ : ℝ) : EReal)) = (((q d).toReal * (k d).toReal * (1 / 8 * L) : ℝ) : EReal) := by
    intro d
    rw [← (hq d).coe, ← (hk d).coe, ← EReal.coe_mul, ← EReal.coe_mul]
    simp only [EReal.toReal_coe]
    congr 1
    unfold L
    ring
  rw [Finset.sum_congr rfl fun d _ => this d, ← coe_sum]
  unfold dotScore
  rw [← Finset.sum_mul]
  congr 1
  ring

/-- The reference's scores, scaled last. -/
theorem dot_scaled (q k : Fin 64 → EReal) (hq : ∀ d, IsReal (q d)) (hk : ∀ d, IsReal (k d)) :
    (∑ d, q d * k d) * ((1 / 8 : ℝ) : EReal) = ((dotScore q k : ℝ) : EReal) := by
  have : ∀ d, q d * k d = (((q d).toReal * (k d).toReal : ℝ) : EReal) := by
    intro d
    rw [EReal.coe_mul, (hq d).coe, (hk d).coe]
  rw [Finset.sum_congr rfl fun d _ => this d, ← coe_sum, ← EReal.coe_mul]
  rfl

theorem add_bias (x : ℝ) (p : Prop) [Decidable p] : (x : EReal) + (if p then 0 else ⊥) = if p then (x : EReal) else ⊥ := by
  split
  · exact add_zero _
  · exact EReal.add_bot _

/-- The run's maximum is a number where the query sees a key. -/
theorem btop_ne_bot {w t n p : ℕ} (s : Fin n → ℝ) (ι : Fin p → Fin n) (x : EReal) (j : Fin p) (h : sees w t (ι j)) : btop w t s ι x ≠ ⊥ := by
  intro hb
  have h1 : bscore w t s ι j ≤ btop w t s ι x := le_trans (Finset.le_sup (Finset.mem_univ j)) (le_max_left _ _)
  rw [hb, bscore, if_pos h] at h1
  exact absurd (le_bot_iff.mp h1) (EReal.coe_ne_bot _)

end Cert.Window
end
-- ==== Proof.SwaBlock.lean ====
module

public import proofs.«01_k».proof.Proof.SwaTile
public import proofs.«01_k».proof.Proof.WindowWords

@[expose] public section

set_option maxRecDepth 16384

noncomputable section

namespace Cert.SwaValue

open Cert.KernelIdeal Cert.KernelIdeal.Gen Idealize.ShloMosaic Idealize.ShloMosaic.TcCoe Idealize.SL.Sem
open Cert.Window
open scoped BigOperators

theorem log2e_eq : Named.named (F := Ideal) κ "log2e" (φ := .f32) 0x3FB8AA3B#32 = ((Window.L : ℝ) : EReal) :=
  IdealRules.named_const.ideal_named_scalar _ _ _ _ rfl

theorem sinks_apply (s : Fin 4 → EReal) (r : Fin 4) (a : Fin 128) :
    sinks s (ix2 0 ⟨128 * r + a, by omega⟩) = s r * (Window.L : ℝ) := by
  pointwise [sinks, k0_pay4, k0_pay3, k0_pay2]
  rw [log2e_eq, lane_in _ 384 512 (by omega) (by omega) (by omega), lane_in _ 256 384 (by omega) (by omega) (by omega), lane_in _ 128 256 (by omega) (by omega) (by omega),
    lane_in _ 0 128 (by omega) (by omega) (by omega)]
  congr 1
  obtain ⟨r, hr⟩ := r
  obtain rfl | rfl | rfl | rfl : r = 0 ∨ r = 1 ∨ r = 2 ∨ r = 3 := by omega
  · rw [if_neg (by simp; omega), if_neg (by simp; omega), if_neg (by simp), if_pos (by simp)]; rfl
  · rw [if_neg (by simp; omega), if_neg (by simp; omega), if_pos (by simp; omega)]; rfl
  · rw [if_neg (by simp; omega), if_pos (by simp; omega)]; rfl
  · rw [if_pos (by simp; omega)]; rfl

theorem scale_eq : Named.named (F := Ideal) κ "scale_log2e" (φ := .f32) 0x3E38AA3B#32 = ((1 / 8 * (Real.log 2)⁻¹ : ℝ) : EReal) :=
  IdealRules.named_const.ideal_named_scalar _ _ _ _ rfl

set_option maxHeartbeats 1000000 in
/-- One lane's scores: the products over the key head's half, with the band added. -/
theorem scores_apply (g : Fin 2) (U V : ℕ) (hU : U < 64) (hV : V ≤ 8192) (k : Vec Ideal S1x256x128 .bf16) (q : Fin 4 → Vec Ideal S1x1x64x128 .f32)
    (j : Fin 256) (r : Fin 4) (a : Fin 128) :
    scores (BitVec.ofNat 32 g.val) (BitVec.ofNat 32 U) (BitVec.ofNat 32 V) k q (ix2 j ⟨128 * r + a, by omega⟩) =
      (∑ e : Fin 64, k (ix3 0 j ⟨64 * g.val + e.val, by omega⟩) * (q r (ix4 0 0 e a) * ((1 / 8 * (Real.log 2)⁻¹ : ℝ) : EReal)))
        + if Window.sees 128 (128 * U + a) (V + j) then 0 else ⊥ := by
  pointwise [scores, k0_pay8, k0_pay5, k0_pay6, k0_pay7]
  rw [ofBits_bot, scale_eq]
  congr 1
  · obtain ⟨g, hg⟩ := g
    obtain rfl | rfl : g = 0 ∨ g = 1 := by omega
    · rw [show Scalar.cmpi .eq (BitVec.ofNat 32 0) 0#32 = 1#1 from rfl]
      simp only [ValueIdx.select_one, Finset.sum_const_zero, add_zero]
      refine Finset.sum_congr rfl fun e _ => ?_
      refine congrArg₂ (· * ·) (congrArg (fun z => k (ix3 0 j z)) (Fin.ext (by simp))) ?_
      exact congrArg (· * ((1 / 8 * (Real.log 2)⁻¹ : ℝ) : EReal)) (lanes (fun r a => q r (ix4 0 0 e a)) r a)
    · rw [show Scalar.cmpi .eq (BitVec.ofNat 32 1) 0#32 = 0#1 from rfl]
      simp only [ValueIdx.select_zero, Finset.sum_const_zero, zero_add]
      refine Finset.sum_congr rfl fun e _ => ?_
      refine congrArg₂ (· * ·) (congrArg (fun z => k (ix3 0 j z)) (Fin.ext (by simp))) ?_
      exact congrArg (· * ((1 / 8 * (Real.log 2)⁻¹ : ℝ) : EReal)) (lanes (fun r a => q r (ix4 0 0 e a)) r a)
  · refine Eq.trans (lanes (fun _ a => Scalar.select (IntOp.andi
        (IntOp.cmpi .sge (IntOp.subi (IntOp.addi (Scalar.subi (Scalar.muli (BitVec.ofNat 32 U) 128#32) (BitVec.ofNat 32 V)) (BitVec.ofNat 32 a.val)) (BitVec.ofNat 32 j.val)) 0#32)
        (IntOp.cmpi .slt (IntOp.subi (IntOp.addi (Scalar.subi (Scalar.muli (BitVec.ofNat 32 U) 128#32) (BitVec.ofNat 32 V)) (BitVec.ofNat 32 a.val)) (BitVec.ofNat 32 j.val)) (BitVec.ofNat 32 128)))
        (0 : EReal) ⊥) r a) ?_
    exact if_congr (band_iff U V a j 128 hU hV a.isLt (by omega) (by norm_num)) rfl rfl

theorem top_apply (g u v : BitVec 32) (s : Fin 4 → EReal) (k : Vec Ideal S1x256x128 .bf16) (q : Fin 4 → Vec Ideal S1x1x64x128 .f32) (l : Fin 512) :
    tops g u v s k q (ix2 0 l) = if max (Finset.univ.sup fun j => scores g u v k q (ix2 j l)) (sinks s (ix2 0 l)) = ⊥ then 0
      else max (Finset.univ.sup fun j => scores g u v k q (ix2 j l)) (sinks s (ix2 0 l)) := by
  pointwise [tops, k0_pay9]
  rw [ofBits_bot]
  rfl

theorem weights_apply (g u v : BitVec 32) (s : Fin 4 → EReal) (k : Vec Ideal S1x256x128 .bf16) (q : Fin 4 → Vec Ideal S1x1x64x128 .f32) (j : Fin 256) (l : Fin 512) :
    weights g u v s k q (ix2 j l) = Ideal.exp2 (scores g u v k q (ix2 j l) - tops g u v s k q (ix2 0 l)) := by
  pointwise [weights, k0_pay10]
  rfl

/-- The products of the values with the weights, the two tiles added. -/
def numer (p : FVec Ideal S256x512 .bf16) (v0 v1 : Vec Ideal S1x1x1x80x128 .bf16) : FVec Ideal S80x512 .f32 :=
  addf (F := Ideal)
    (matmul (F := Ideal) (φ₁ := .bf16) (φ₂ := .bf16) dot_S80x128_S128x512_S80x512_1_0_0_1_n_n none (shapeCast S80x128 v0 shapeCasts_S1x1x1x80x128_S80x128)
      (extractStridedSlice S128x512 ![0, 0] p slices_S256x512_o0_0_S128x512) (constant S80x512 .f32 0x00000000#32))
    (matmul (F := Ideal) (φ₁ := .bf16) (φ₂ := .bf16) dot_S80x128_S128x512_S80x512_1_0_0_1_n_n none (shapeCast S80x128 v1 shapeCasts_S1x1x1x80x128_S80x128)
      (extractStridedSlice S128x512 ![128, 0] p slices_S256x512_o128_0_S128x512) (constant S80x512 .f32 0x00000000#32))

/-- The value rows over the row of weights' sum, the sink added. -/
def ratio (sk mt : FVec Ideal S1x512 .f32) (o : FVec Ideal S80x512 .f32) : FVec Ideal S64x512 .f32 :=
  divf (F := Ideal) (extractStridedSlice S64x512 ![0, 0] o slices_S80x512_o0_0_S64x512)
    (broadcastTo S64x512 (maximumf (F := Ideal) (addf (F := Ideal) (extractStridedSlice S1x512 ![64, 0] o slices_S80x512_o64_0_S1x512) (exp2 (F := Ideal) (subf (F := Ideal) sk mt)))
      (broadcast S1x512 (Scalar.ofBits (F := Ideal) .f32 0x0DA24260#32))) broadcasts_S1x512_S64x512)

/-- The four heads, turned and side by side. -/
def laid (x : FVec Ideal S64x512 .f32) : FVec Ideal S1x128x256 .f32 :=
  shapeCast S1x128x256 (concatenate S128x256 1
    [⟨S128x64, transpose S128x64 [1, 0] (extractStridedSlice S64x128 ![0, 0] x slices_S64x512_o0_0_S64x128) transposes_S64x128_p1_0_S128x64⟩,
      ⟨S128x64, transpose S128x64 [1, 0] (extractStridedSlice S64x128 ![0, 128] x slices_S64x512_o0_128_S64x128) transposes_S64x128_p1_0_S128x64⟩,
      ⟨S128x64, transpose S128x64 [1, 0] (extractStridedSlice S64x128 ![0, 256] x slices_S64x512_o0_256_S64x128) transposes_S64x128_p1_0_S128x64⟩,
      ⟨S128x64, transpose S128x64 [1, 0] (extractStridedSlice S64x128 ![0, 384] x slices_S64x512_o0_384_S64x128) transposes_S64x128_p1_0_S128x64⟩]
    concatenates_S128x64_S128x64_S128x64_S128x64_S128x256_d1) shapeCasts_S128x256_S1x128x256

theorem finish_eq (sk mt : FVec Ideal S1x512 .f32) (p : FVec Ideal S256x512 .bf16) (v0 v1 : Vec Ideal S1x1x1x80x128 .bf16) :
    k0_pay11 (F := Ideal) sk mt p v0 v1 = laid (ratio sk mt (numer p v0 v1)) := rfl

theorem laid_apply (x : FVec Ideal S64x512 .f32) (r : Fin 4) (d : Fin 64) (a : Fin 128) :
    laid x (ix3 0 a ⟨64 * r + d, by omega⟩) = x (ix2 d ⟨128 * r + a, by omega⟩) := by
  pointwise [laid]
  obtain ⟨r, hr⟩ := r
  obtain rfl | rfl | rfl | rfl : r = 0 ∨ r = 1 ∨ r = 2 ∨ r = 3 := by omega
  · rw [dif_pos (by simp)]
    simp only [show 64 * 0 + d.val = d.val by omega, show 128 * 0 + a.val = a.val by omega]
  · rw [dif_neg (by simp), dif_pos (by simp)]
    simp only [show 64 * 1 + d.val - 64 = d.val by omega, show 128 * 1 + a.val = 128 + a.val by omega]
  · rw [dif_neg (by simp; omega), dif_neg (by simp; omega), dif_pos (by simp; omega)]
    simp only [show 64 * 2 + d.val - 64 - 64 = d.val by omega, show 128 * 2 + a.val = 256 + a.val by omega]
  · rw [dif_neg (by simp; omega), dif_neg (by simp; omega), dif_neg (by simp; omega)]
    simp only [show 64 * 3 + d.val - 64 - 64 - 64 = d.val by omega, show 128 * 3 + a.val = 384 + a.val by omega]

theorem ratio_apply (sk mt : FVec Ideal S1x512 .f32) (o : FVec Ideal S80x512 .f32) (d : Fin 64) (l : Fin 512) :
    ratio sk mt o (ix2 d l) = Ideal.div (o (ix2 ⟨d, by omega⟩ l))
      (max (o (ix2 64 l) + Ideal.exp2 (sk (ix2 0 l) - mt (ix2 0 l))) (Ideal.ofBits .f32 0x0DA24260#32)) := by
  pointwise [ratio]
  rfl

theorem numer_apply (p : FVec Ideal S256x512 .bf16) (v0 v1 : Vec Ideal S1x1x1x80x128 .bf16) (d : Fin 80) (l : Fin 512) :
    numer p v0 v1 (ix2 d l) = (∑ j : Fin 128, v0 (ix5 0 0 0 d j) * p (ix2 ⟨j.val, by omega⟩ l)) + ∑ j : Fin 128, v1 (ix5 0 0 0 d j) * p (ix2 ⟨128 + j.val, by omega⟩ l) := by
  pointwise [numer]

theorem numer_run (p : FVec Ideal S256x512 .bf16) (v0 v1 : Vec Ideal S1x1x1x80x128 .bf16) (d : Fin 80) (l : Fin 512) :
    numer p v0 v1 (ix2 d l) = ∑ j : Fin 256, (if h : j.val < 128 then v0 (ix5 0 0 0 d ⟨j, h⟩) else v1 (ix5 0 0 0 d ⟨j - 128, by omega⟩)) * p (ix2 j l) := by
  rw [numer_apply]
  refine ((Fin.sum_univ_add (a := 128) (b := 128) _).trans (congrArg₂ (· + ·) (Finset.sum_congr rfl fun j _ => ?_) (Finset.sum_congr rfl fun j _ => ?_))).symm
  · rw [dif_pos (show (Fin.castAdd 128 j).val < 128 from j.isLt)]; rfl
  · rw [dif_neg (show ¬(Fin.natAdd 128 j).val < 128 by simp)]
    refine congrArg₂ (· * ·) (congrArg (fun z => v1 (ix5 0 0 0 d z)) (Fin.ext ?_)) rfl
    simp

end Cert.SwaValue
end
-- ==== Proof.SwaPoint.lean ====
module

public import proofs.«01_k».proof.Proof.SwaBlock
public import Idealize.ShloMosaic.Lib.ValueIdxCore
public import Idealize.ShloMosaic.Lib.Pointwise
public import Idealize.ShloMosaic.Lib.Tactic.WordOmega

@[expose] public section

set_option maxRecDepth 16384

noncomputable section

namespace Cert.SwaValue

open Cert.KernelIdeal Cert.KernelIdeal.Gen Idealize.ShloMosaic Idealize.ShloMosaic.TcCoe Idealize.SL.Sem
open Cert.Window
open scoped BigOperators

/-- A tile's entry is the row over the tile's run of 256 keys. -/
theorem tile_run (g : Fin 2) (U V : ℕ) (hU : U < 64) (hV : V + 256 ≤ 8192) (s : Fin 4 → EReal) (k : Vec Ideal S1x256x128 .bf16)
    (q : Fin 4 → Vec Ideal S1x1x64x128 .f32) (v0 v1 : Vec Ideal S1x1x1x80x128 .bf16) (r : Fin 4) (d : Fin 64) (a : Fin 128)
    (sc : Fin 8192 → ℝ) (vv : Fin 8192 → EReal)
    (hs : ∀ j : Fin 256, (∑ e : Fin 64, k (ix3 0 j ⟨64 * g.val + e.val, by omega⟩) * (q r (ix4 0 0 e a) * ((1 / 8 * (Real.log 2)⁻¹ : ℝ) : EReal))) = ((sc ⟨V + j, by omega⟩ * L : ℝ) : EReal))
    (hv : ∀ j : Fin 256, (if h : j.val < 128 then v0 (ix5 0 0 0 ⟨d, by omega⟩ ⟨j, h⟩) else v1 (ix5 0 0 0 ⟨d, by omega⟩ ⟨j - 128, by omega⟩)) = vv ⟨V + j, by omega⟩)
    (h1 : ∀ j : Fin 256, (if h : j.val < 128 then v0 (ix5 0 0 0 64 ⟨j, h⟩) else v1 (ix5 0 0 0 64 ⟨j - 128, by omega⟩)) = 1)
    (j₀ : Fin 256) (h₀ : sees 128 (128 * U + a) (V + j₀)) :
    tile (BitVec.ofNat 32 g.val) (BitVec.ofNat 32 U) (BitVec.ofNat 32 V) s k q v0 v1 (ix3 0 a ⟨64 * r + d, by omega⟩)
      = run 128 (128 * U + a) sc (fun j : Fin 256 => ⟨V + j, by omega⟩) vv (s r) (Ideal.ofBits .f32 0x0DA24260#32) := by
  have hst : ∀ j : Fin 256, scores (BitVec.ofNat 32 g.val) (BitVec.ofNat 32 U) (BitVec.ofNat 32 V) k q (ix2 j ⟨128 * r + a, by omega⟩)
      = bscore 128 (128 * U + a) sc (fun j : Fin 256 => ⟨V + j, by omega⟩) j := by
    intro j
    rw [scores_apply g U V hU (by omega)]
    refine (congrArg (· + _) (hs j)).trans ?_
    rw [add_bias]
    rfl
  have htop : tops (BitVec.ofNat 32 g.val) (BitVec.ofNat 32 U) (BitVec.ofNat 32 V) s k q (ix2 0 ⟨128 * r + a, by omega⟩)
      = btop 128 (128 * U + a) sc (fun j : Fin 256 => ⟨V + j, by omega⟩) (s r) := by
    rw [top_apply, sinks_apply]
    simp only [hst]
    exact if_neg (btop_ne_bot sc (fun j : Fin 256 => ⟨V + j, by omega⟩) (s r) j₀ h₀)
  unfold tile
  rw [finish_eq, laid_apply, ratio_apply, numer_run, numer_run, htop, sinks_apply]
  simp only [weights_apply, hst, htop, hv, h1, one_mul]
  rfl

end Cert.SwaValue
end
-- ==== Proof.SwaArray.lean ====
module

public import proofs.«01_k».proof.Proof.SwaPoint

@[expose] public section

set_option maxRecDepth 16384

noncomputable section

namespace Cert.SwaValue

open Cert.KernelIdeal Cert.KernelIdeal.Gen Idealize.ShloMosaic Idealize.ShloMosaic.TcCoe Idealize.SL.Sem
open Idealize.ShloMosaic.Pipeline (Dat)
open Cert.Window
open scoped BigOperators

variable (m : (ℓ : Loc nD τ sig) → Buf (Elt Ideal) ℓ) (ρ : Dev nD → PrngReg)

theorem coords_eq : ∀ t : Fin cfg0.N, (grid0.coords t 0).val = t.val / 8 ∧ (grid0.coords t 1).val = t.val / 4 % 2 ∧ (grid0.coords t 2).val = t.val % 4 :=
  (by decide +kernel : ∀ t : Fin grid0.N, (grid0.coords t 0).val = t.val / 8 ∧ (grid0.coords t 1).val = t.val / 4 % 2 ∧ (grid0.coords t 2).val = t.val % 4)

theorem words : ∀ (t : Fin cfg0.N) (n : Fin 16), tileWord (grid0.coords t) n = BitVec.ofNat 32 (16 * (t.val % 4) + n.val)
    ∧ startWord (grid0.coords t) n = BitVec.ofNat 32 (128 * (16 * (t.val % 4) + n.val) - 128)
    ∧ k0_off2 (grid0.coords t) (BitVec.ofNat 32 n.val) = ![0, 128 * (16 * (t.val % 4) + n.val) - 128, 0]
    ∧ k0_off3 (grid0.coords t) (BitVec.ofNat 32 n.val) = ![0, 0, 16 * (t.val % 4) + n.val - 1, 0, 0]
    ∧ k0_off4 (grid0.coords t) (BitVec.ofNat 32 n.val) = ![0, 0, 16 * (t.val % 4) + n.val - 1 + 1, 0, 0] :=
  (by decide +kernel : ∀ (t : Fin grid0.N) (n : Fin 16), tileWord (grid0.coords t) n = BitVec.ofNat 32 (16 * (t.val % 4) + n.val)
    ∧ startWord (grid0.coords t) n = BitVec.ofNat 32 (128 * (16 * (t.val % 4) + n.val) - 128)
    ∧ k0_off2 (grid0.coords t) (BitVec.ofNat 32 n.val) = ![0, 128 * (16 * (t.val % 4) + n.val) - 128, 0]
    ∧ k0_off3 (grid0.coords t) (BitVec.ofNat 32 n.val) = ![0, 0, 16 * (t.val % 4) + n.val - 1, 0, 0]
    ∧ k0_off4 (grid0.coords t) (BitVec.ofNat 32 n.val) = ![0, 0, 16 * (t.val % 4) + n.val - 1 + 1, 0, 0])

theorem sink_word : ∀ (t : Fin cfg0.N) (r : Fin 4), k0_off1 (grid0.coords t) (BitVec.ofNat 32 r.val) = ![4 * (t.val / 4 % 2) + r.val] :=
  (by decide +kernel : ∀ (t : Fin grid0.N) (r : Fin 4), k0_off1 (grid0.coords t) (BitVec.ofNat 32 r.val) = ![4 * (t.val / 4 % 2) + r.val])

theorem idx0 : ∀ t : Fin cfg0.N, win0_0.index t = ![0] ∧ win0_1.index t = ![t.val / 8, t.val / 4 % 2, 0, t.val % 4] ∧ win0_2.index t = ![t.val / 8, 0, 0]
    ∧ win0_3.index t = ![t.val / 8, t.val / 4 % 2, 0, 0, 0] ∧ win0_4.index t = ![t.val / 8, t.val % 4, t.val / 4 % 2] :=
  (by decide +kernel : ∀ t : Fin grid0.N, win0_0.index t = ![0] ∧ win0_1.index t = ![t.val / 8, t.val / 4 % 2, 0, t.val % 4] ∧ win0_2.index t = ![t.val / 8, 0, 0]
    ∧ win0_3.index t = ![t.val / 8, t.val / 4 % 2, 0, 0, 0] ∧ win0_4.index t = ![t.val / 8, t.val % 4, t.val / 4 % 2])

/-- The batch, the key head and the step of a grid point. -/
abbrev bat (t : Fin cfg0.N) : Fin 4 := ⟨t.val / 8, by have : t.val < 32 := t.isLt; omega⟩
abbrev grp (t : Fin cfg0.N) : Fin 2 := ⟨t.val / 4 % 2, by omega⟩

theorem sink_blk (c : Dev nD) (t : Fin cfg0.N) (h : Fin 8) : iblk m c 0 t (ix1 h) = m ((c : Thread nD τ).loc main_arg3) (ix1 h) := by
  blk_ext! [iblk, idx0 t]

theorem q_blk (c : Dev nD) (t : Fin cfg0.N) (r : Fin 4) (e : Fin 64) (x : Fin 2048) :
    iblk m c 1 t (ix4 0 r e x) = m ((c : Thread nD τ).loc main_arg0)
      (ix4 (bat t) ⟨4 * (t.val / 4 % 2) + r.val, by omega⟩ ⟨2048 * (t.val % 4) + x.val, by omega⟩ e) := by
  blk_ext! [iblk, idx0 t]

theorem k_blk (c : Dev nD) (t : Fin cfg0.N) (x : Fin 8192) (g : Fin 2) (e : Fin 64) :
    iblk m c 2 t (ix3 0 x ⟨64 * g.val + e.val, by omega⟩) = m ((c : Thread nD τ).loc main_arg1) (ix4 (bat t) g x e) := by
  blk_ext! [iblk, idx0 t]

theorem v_blk (c : Dev nD) (t : Fin cfg0.N) (u : Fin 64) (d : Fin 64) (x : Fin 128) :
    iblk m c 3 t (ix5 0 0 u ⟨d.val, by omega⟩ x) = m ((c : Thread nD τ).loc main_arg2) (ix4 (bat t) (grp t) ⟨128 * u.val + x.val, by omega⟩ d) := by
  blk_simp [iblk, idx0 t]
  entry_read
  pointwise
  split_ifs with h
  · blk_ext [iblk, idx0 t]
  · exfalso
    revert h
    blk_simp [iblk, idx0 t]
    exact fun h => h d.isLt

theorem one_blk (c : Dev nD) (t : Fin cfg0.N) (u : Fin 64) (x : Fin 128) :
    iblk m c 3 t (ix5 0 0 u 64 x) = (1 : EReal) := by
  blk_simp [iblk, idx0 t]
  entry_read
  pointwise
  split_ifs with h
  · exfalso
    revert h
    blk_simp [iblk, idx0 t]
    omega
  · rfl

theorem off_ld1 (x : Vec Ideal S8 .f32) (o : Fin 1 → ℕ) (v : ℕ) (e : o = ![v]) (inb) (h : v < 8) :
    View.ld x (Rect.unit (s := S8) o S1.size inb) (ix1 0) = x (ix1 ⟨v, h⟩) := by
  subst e
  refine congrArg x (funext fun a => Fin.ext ?_)
  fin_cases a
  · show v + 1 * 0 = v
    omega

theorem off_ld2 (x : Vec Ideal S1x8192x128 .bf16) (o : Fin 3 → ℕ) (v : ℕ) (e : o = ![0, v, 0]) (inb) (j : Fin 256) (l : Fin 128) (h : v + j.val < 8192) :
    View.ld x (Rect.unit (s := S1x8192x128) o S1x256x128.size inb) (ix3 0 j l) = x (ix3 0 ⟨v + j.val, h⟩ l) := by
  subst e
  refine congrArg x (funext fun a => Fin.ext ?_)
  fin_cases a
  · show 0 + 1 * 0 = 0
    omega
  · show v + 1 * j.val = v + j.val
    omega
  · show 0 + 1 * l.val = l.val
    omega

theorem off_ld3 (x : Vec Ideal S1x1x64x80x128 .bf16) (o : Fin 5 → ℕ) (v : ℕ) (e : o = ![0, 0, v, 0, 0]) (inb) (l : Fin 80) (j : Fin 128) (h : v < 64) :
    View.ld x (Rect.unit (s := S1x1x64x80x128) o S1x1x1x80x128.size inb) (ix5 0 0 0 l j) = x (ix5 0 0 ⟨v, h⟩ l j) := by
  subst e
  refine congrArg x (funext fun a => Fin.ext ?_)
  fin_cases a
  · show 0 + 1 * 0 = 0
    omega
  · show 0 + 1 * 0 = 0
    omega
  · show v + 1 * 0 = v
    omega
  · show 0 + 1 * l.val = l.val
    omega
  · show 0 + 1 * j.val = j.val
    omega

theorem off_ldq (x : Vec Ideal S1x4x64x2048 .f32) (r : Fin 4) (n : Fin 16) (inb) (e : Fin 64) (a : Fin 128) :
    View.ld x (Rect.unit (s := S1x4x64x2048) ![0, r.val, 0, 128 * n.val] S1x1x64x128.size inb) (ix4 0 0 e a) = x (ix4 0 r e ⟨128 * n.val + a.val, by omega⟩) := by
  refine congrArg x (funext fun a => Fin.ext ?_)
  fin_cases a
  · show 0 + 1 * 0 = 0
    omega
  · show r.val + 1 * 0 = r.val
    omega
  · show 0 + 1 * e.val = e.val
    omega
  · show 128 * n.val + 1 * a.val = 128 * n.val + a.val
    omega

end Cert.SwaValue
end
-- ==== Proof.WindowEps.lean ====
module

public import proofs.«01_k».proof.Proof.WindowWords

@[expose] public section

noncomputable section

namespace Cert.Window

open Idealize.ShloMosaic

/-- The smallest denominator, `1e-30` as a 32-bit float, is a positive real. -/
theorem eps_eq : Ideal.ofBits .f32 0x0DA24260#32 = ((10633824 * (2 ^ 123)⁻¹ : ℝ) : EReal) := by
  simp [Ideal.ofBits, Ideal.ieee, -EReal.coe_mul]

theorem eps_pos : 0 < Ideal.ofBits .f32 0x0DA24260#32 := by
  rw [eps_eq, EReal.coe_pos]
  positivity

theorem eps_ne_top : Ideal.ofBits .f32 0x0DA24260#32 ≠ ⊤ := by
  rw [eps_eq]
  exact EReal.coe_ne_top _

end Cert.Window
end
-- ==== Proof.SwaFinal.lean ====
module

public import proofs.«01_k».proof.Proof.SwaArray
public import proofs.«01_k».proof.Proof.WindowEps

@[expose] public section

set_option maxRecDepth 16384

noncomputable section

namespace Cert.SwaValue

open Cert.KernelIdeal Cert.KernelIdeal.Gen Idealize.ShloMosaic Idealize.ShloMosaic.TcCoe Idealize.SL.Sem
open Idealize.ShloMosaic.Pipeline (Dat)
open Cert.Window
open scoped BigOperators

variable (a0 : FVec Ideal S4x8x8192x64 .f32) (a1 a2 : FVec Ideal S4x2x8192x64 .f32) (a3 : FVec Ideal S8 .f32)

/-- The layer at batch `b`, head `h`, position `t`, channel `d`: dense softmax over the last 128 keys with the head's sink. -/
def outAt (b : Fin 4) (h : Fin 8) (t : Fin 8192) (d : Fin 64) : EReal :=
  dense 128 t.val (fun key => dotScore (fun e => a0 (ix4 b h t e)) (fun e => a1 (ix4 b ⟨h.val / 4, by omega⟩ key e)))
    (fun key => a2 (ix4 b ⟨h.val / 4, by omega⟩ key d)) (a3 (ix1 h)) (Ideal.ofBits .f32 0x0DA24260#32)

/-- The layer as the array `[batch, position, head · 64 + channel]`. -/
def layer : FVec Ideal S4x8192x512 .f32 := fun i => outAt a0 a1 a2 a3 (i 0)
  ⟨(i 2).val / 64, by have : (i 2).val < 512 := (i 2).isLt; omega⟩ (i 1) ⟨(i 2).val % 64, by omega⟩

variable (m : (ℓ : Loc nD τ sig) → Buf (Elt Ideal) ℓ) (ρ : Dev nD → PrngReg)

/-- One entry of what a grid point leaves in its output block is the layer's entry there. -/
theorem outs_layer (c : Dev nD) (hq : ∀ i, IsReal (m ((c : Thread nD τ).loc main_arg0) i)) (hk : ∀ i, IsReal (m ((c : Thread nD τ).loc main_arg1) i))
    (hx : ∀ i, Ne (α := EReal) (m ((c : Thread nD τ).loc main_arg3) i) ⊤) (t : Fin cfg0.N) (n : Fin 16) (r : Fin 4) (d : Fin 64) (a : Fin 128)
    (pos : Fin 8192) (hpos : pos.val = 128 * (16 * (t.val % 4) + n.val) + a.val) :
    (outsAt0 m c t (ix3 0 ⟨128 * n.val + a.val, by omega⟩ ⟨64 * r.val + d.val, by omega⟩) : EReal)
      = outAt (m ((c : Thread nD τ).loc main_arg0)) (m ((c : Thread nD τ).loc main_arg1)) (m ((c : Thread nD τ).loc main_arg2))
          (m ((c : Thread nD τ).loc main_arg3)) (bat t) ⟨4 * (t.val / 4 % 2) + r.val, by omega⟩ pos d := by
  refine (outs_eq m c t (ix3 0 ⟨128 * n.val + a.val, by omega⟩ ⟨64 * r.val + d.val, by omega⟩) n (show n.val = (128 * n.val + a.val) / 128 by omega)
    (ix3 0 a ⟨64 * r.val + d.val, by omega⟩) rfl (show a.val = (128 * n.val + a.val) % 128 by omega) rfl).trans ?_
  obtain ⟨h1, h2, h3, h4, h5⟩ := words t n
  have hg : (⟨(4 * (t.val / 4 % 2) + r.val) / 4, by omega⟩ : Fin 2) = grp t := Fin.ext (by show (4 * (t.val / 4 % 2) + r.val) / 4 = t.val / 4 % 2; omega)
  have hp : (⟨2048 * (t.val % 4) + (128 * n.val + a.val), by omega⟩ : Fin 8192) = pos := Fin.ext (by show 2048 * (t.val % 4) + (128 * n.val + a.val) = pos.val; omega)
  have hs : View.ld (iblk m c 0 t) (Rect.unit (s := S8) (k0_off1 (grid0.coords t) (BitVec.ofNat 32 r.val)) S1.size (k0_off1_inb (grid0.coords t) r))
      (Shape.Idx.first (s := S1) (by decide)) = m ((c : Thread nD τ).loc main_arg3) (ix1 ⟨4 * (t.val / 4 % 2) + r.val, by omega⟩) :=
    (congrArg _ (show Shape.Idx.first (s := S1) (by decide) = ix1 0 by funext z; fin_cases z; rfl)).trans
      ((off_ld1 _ _ _ (sink_word t r) _ (by omega)).trans (sink_blk m c t _))
  unfold tileOf outAt
  obtain ⟨U, hU⟩ : ∃ U, U = 16 * (t.val % 4) + n.val := ⟨_, rfl⟩
  rw [← hU] at h1 h2 h3 h4 h5 hpos
  rw [h1, h2, (coords_eq t).2.1]
  simp only [hg]
  have hU' : U < 64 := by omega
  have hb0 : ∀ j : Fin 256, 128 * U - 128 + j.val < 8192 := fun j => by omega
  refine (tile_run (grp t) U (128 * U - 128) hU' (by omega) _ _ _ _ _ r d a
    (fun key => dotScore (fun e => m ((c : Thread nD τ).loc main_arg0) (ix4 (bat t) ⟨4 * (t.val / 4 % 2) + r.val, by omega⟩ pos e))
      (fun e => m ((c : Thread nD τ).loc main_arg1) (ix4 (bat t) (grp t) key e)))
    (fun key => m ((c : Thread nD τ).loc main_arg2) (ix4 (bat t) (grp t) key d)) ?_ ?_ ?_
    ⟨128 * U + a.val - (128 * U - 128), by omega⟩ ⟨?_, ?_⟩).trans ?_
  · intro j
    refine Eq.trans (Finset.sum_congr rfl fun e _ => ?_) (scaled_dot _ _ (fun e => hq _) (fun e => hk _))
    rw [off_ld2 _ _ _ h3 _ j _ (hb0 j), k_blk, off_ldq, q_blk, hp]
  · intro j
    split_ifs with h
    · rw [off_ld3 _ _ _ h4 _ _ _ (by omega)]
      refine (v_blk m c t ⟨U - 1, by omega⟩ d ⟨j.val, h⟩).trans (congrArg _ ?_)
      refine congrArg (fun z => ix4 (bat t) (grp t) z d) (Fin.ext ?_)
      show 128 * (U - 1) + j.val = 128 * U - 128 + j.val
      omega
    · rw [off_ld3 _ _ _ h5 _ _ _ (by omega)]
      refine (v_blk m c t ⟨U - 1 + 1, by omega⟩ d ⟨j.val - 128, by omega⟩).trans (congrArg _ ?_)
      refine congrArg (fun z => ix4 (bat t) (grp t) z d) (Fin.ext ?_)
      show 128 * (U - 1 + 1) + (j.val - 128) = 128 * U - 128 + j.val
      omega
  · intro j
    split_ifs with h
    · rw [off_ld3 _ _ _ h4 _ _ _ (by omega)]
      exact one_blk m c t ⟨U - 1, by omega⟩ ⟨j.val, h⟩
    · rw [off_ld3 _ _ _ h5 _ _ _ (by omega)]
      exact one_blk m c t ⟨U - 1 + 1, by omega⟩ ⟨j.val - 128, by omega⟩
  · show 128 * U - 128 + (128 * U + a.val - (128 * U - 128)) ≤ 128 * U + a.val
    omega
  · show 128 * U + a.val < 128 * U - 128 + (128 * U + a.val - (128 * U - 128)) + 128
    omega
  · rw [hs, hpos]
    refine run_eq_dense _ _ _ _ _ (hx _) eps_pos eps_ne_top (fun x y h => Fin.ext ?_) (fun k hk => ?_) pos ⟨?_, ?_⟩
    · have := congrArg Fin.val h
      simp only at this
      omega
    · obtain ⟨hk1, hk2⟩ := hk
      refine ⟨⟨k.val - (128 * U - 128), by omega⟩, Fin.ext ?_⟩
      show 128 * U - 128 + (k.val - (128 * U - 128)) = k.val
      omega
    · omega
    · omega

end Cert.SwaValue
end
-- ==== Proof.SwaRun.lean ====
module

public import proofs.«01_k».proof.Proof.SwaFinal
public import Idealize.ShloMosaic.Lib.Pipeline.ValueKit

@[expose] public section

set_option maxRecDepth 16384

noncomputable section

namespace Cert.SwaValue

open Cert.KernelIdeal Cert.KernelIdeal.Gen Idealize.ShloMosaic Idealize.ShloMosaic.TcCoe Idealize.SL.Sem
open Idealize.ShloMosaic.Pipeline (Dat)
open Cert.Window

variable (m : (ℓ : Loc nD τ sig) → Buf (Elt Ideal) ℓ) (ρ : Dev nD → PrngReg)

/-- The layer of the launch contents of the arguments. -/
def G (c : Dev nD) : FVec Ideal S4x8192x512 .f32 :=
  layer (m ((c : Thread nD τ).loc main_arg0)) (m ((c : Thread nD τ).loc main_arg1)) (m ((c : Thread nD τ).loc main_arg2)) (m ((c : Thread nD τ).loc main_arg3))

/-- The result array ends holding the layer: point `t` writes back its block of it, and the blocks tile the array. -/
theorem final (c : Dev nD) (hq : ∀ i, IsReal (m ((c : Thread nD τ).loc main_arg0) i)) (hk : ∀ i, IsReal (m ((c : Thread nD τ).loc main_arg1) i))
    (hx : ∀ i, Ne (α := EReal) (m ((c : Thread nD τ).loc main_arg3) i) ⊤) : (dats m 0 c).arrAt 4 cfg0.N = G m c := by
  refine (dats m 0 c).arrAt_eq_of_covers 4 _ (by decide +kernel) fun t hf y => ?_
  idx_vars y
  have e : ((cfg0.win 4).blk t).view.emb (ix3 y0 y1 y2) = ix3 (bat t) ⟨2048 * (t.val % 4) + y1.val, by omega⟩ ⟨256 * (t.val / 4 % 2) + y2.val, by omega⟩ := by
    blk_ext [idx0 t]
  rw [e]
  show (dats m 0 c).after 4 t (ix3 y0 y1 y2) = _
  rw [after0_4]
  obtain ⟨n, a, rfl⟩ : ∃ (n : Fin 16) (a : Fin 128), y1 = ⟨128 * n.val + a.val, by omega⟩ :=
    ⟨⟨y1.val / 128, by omega⟩, ⟨y1.val % 128, by omega⟩, Fin.ext (by show y1.val = 128 * (y1.val / 128) + y1.val % 128; omega)⟩
  obtain ⟨r, d, rfl⟩ : ∃ (r : Fin 4) (d : Fin 64), y2 = ⟨64 * r.val + d.val, by omega⟩ :=
    ⟨⟨y2.val / 64, by omega⟩, ⟨y2.val % 64, by omega⟩, Fin.ext (by show y2.val = 64 * (y2.val / 64) + y2.val % 64; omega)⟩
  obtain rfl : y0 = 0 := Subsingleton.elim _ _
  refine (outs_layer m c hq hk hx t n r d a ⟨2048 * (t.val % 4) + (128 * n.val + a.val), by omega⟩
    (show 2048 * (t.val % 4) + (128 * n.val + a.val) = 128 * (16 * (t.val % 4) + n.val) + a.val by omega)).trans ?_
  show _ = outAt _ _ _ _ (bat t) ⟨(256 * (t.val / 4 % 2) + (64 * r.val + d.val)) / 64, _⟩ _ ⟨(256 * (t.val / 4 % 2) + (64 * r.val + d.val)) % 64, _⟩
  congr 1
  · refine Fin.ext ?_
    show 4 * (t.val / 4 % 2) + r.val = (256 * (t.val / 4 % 2) + (64 * r.val + d.val)) / 64
    omega
  · refine Fin.ext ?_
    show d.val = (256 * (t.val / 4 % 2) + (64 * r.val + d.val)) % 64
    omega

/-- and the run, read: the result array at the layer, the arguments unchanged. -/
theorem run (hq : ∀ (c : Dev nD) i, IsReal (m ((c : Thread nD τ).loc main_arg0) i)) (hk : ∀ (c : Dev nD) i, IsReal (m ((c : Thread nD τ).loc main_arg1) i))
    (hx : ∀ (c : Dev nD) i, Ne (α := EReal) (m ((c : Thread nD τ).loc main_arg3) i) ⊤) :
    θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c (hq c) (hk c) (hx c)), (h c).2⟩) (Value.run_blocks m ρ)

end Cert.SwaValue

end
-- ==== Proof.SwaRef.lean ====
module

public import proofs.«01_k».proof.Proof.Gen.ReferenceIdeal.Run
public import proofs.«01_k».proof.Proof.WindowWords
public import Idealize.ShloMosaic.Lib.Pointwise

@[expose] public section

set_option maxRecDepth 16384

noncomputable section

namespace Cert.SwaRef

open Cert.ReferenceIdeal Cert.ReferenceIdeal.Gen Idealize.ShloMosaic Idealize.ShloMosaic.TcCoe Idealize.SL.Sem Idealize.ShloMosaic.StableHlo
open Cert.Window
open scoped BigOperators

/-- Query position minus key position. -/
def rel : IVec S8192x8192 32 :=
  subi (broadcastInDim S8192x8192 ![0, 1] bcast_S8192x1_S8192x8192_0_1 (broadcastInDim S8192x1 ![0] bcast_S8192_S8192x1_0 (iotaInDim S8192 32 0)))
    (broadcastInDim S8192x8192 ![0, 1] bcast_S1x8192_S8192x8192_0_1 (broadcastInDim S1x8192 ![1] bcast_S8192_S1x8192_1 (iotaInDim S8192 32 0)))

/-- The band of keys a query sees. -/
def band : IVec S8192x8192 1 :=
  andi (cmpi .sge rel (broadcastInDim S8192x8192 ![] bcast_S_S8192x8192 (constantI S_ 32 0#32)))
    (cmpi .slt rel (broadcastInDim S8192x8192 ![] bcast_S_S8192x8192 (constantI S_ 32 128#32)))

/-- The scores, minus infinity outside the band. -/
def masked (a0 : FVec Ideal S4x8x8192x64 .f32) (a1 : FVec Ideal S4x2x8192x64 .f32) : FVec Ideal S4x2x4x8192x8192 .f32 :=
  select (broadcastInDim S4x2x4x8192x8192 ![3, 4] bcast_S8192x8192_S4x2x4x8192x8192_3_4 band)
    (mulf (Host.dotGeneral dot_S4x2x4x8192x64_S4x2x8192x64_S4x2x4x8192x8192_4_3_23_2_01_01 none (shapeCast _ a0 shapeCasts_S4x8x8192x64_S4x2x4x8192x64 : FVec Ideal S4x2x4x8192x64 .f32) a1)
      (broadcastInDim S4x2x4x8192x8192 ![] bcast_S_S4x2x4x8192x8192 (constant S_ .f32 0x3E000000#32)))
    (broadcastInDim S4x2x4x8192x8192 ![] bcast_S_S4x2x4x8192x8192 (constant S_ .f32 0xFF800000#32))

/-- The sinks, along the positions. -/
def sinkRow (a3 : FVec Ideal S8 .f32) : FVec Ideal S4x2x4x8192x1 .f32 :=
  broadcastInDim S4x2x4x8192x1 ![0, 1, 2, 3, 4] bcast_S1x2x4x1x1_S4x2x4x8192x1_0_1_2_3_4 (shapeCast _ a3 shapeCasts_S8_S1x2x4x1x1 : FVec Ideal S1x2x4x1x1 .f32)

/-- Each row's maximum. -/
def rowMax (s : FVec Ideal S4x2x4x8192x8192 .f32) : FVec Ideal S4x2x4x8192 .f32 :=
  Host.reduce FloatOps.maximumf s (constant S_ .f32 0xFF800000#32) reducesTo_S4x2x4x8192x8192_S4x2x4x8192_d4 h_S_

/-- Each row's maximum, the sink included. -/
def rowTop (s : FVec Ideal S4x2x4x8192x8192 .f32) (a3 : FVec Ideal S8 .f32) : FVec Ideal S4x2x4x8192x1 .f32 :=
  maximumf (broadcastInDim S4x2x4x8192x1 ![0, 1, 2, 3] bcast_S4x2x4x8192_S4x2x4x8192x1_0_1_2_3 (rowMax s)) (sinkRow a3)

/-- A maximum that is not finite counts as zero. -/
def finiteTop (x : FVec Ideal S4x2x4x8192x1 .f32) : FVec Ideal S4x2x4x8192x1 .f32 :=
  select (cmpf .olt (Host.absf x) (broadcastInDim S4x2x4x8192x1 ![] bcast_S_S4x2x4x8192x1 (constant S_ .f32 0x7F800000#32))) x
    (broadcastInDim S4x2x4x8192x1 ![] bcast_S_S4x2x4x8192x1 (constant S_ .f32 0x00000000#32))

/-- The exponentials of the scores less the maximum. -/
def expRow (s : FVec Ideal S4x2x4x8192x8192 .f32) (x : FVec Ideal S4x2x4x8192x1 .f32) : FVec Ideal S4x2x4x8192x8192 .f32 :=
  Host.exp (subf s (broadcastInDim S4x2x4x8192x8192 ![0, 1, 2, 3, 4] bcast_S4x2x4x8192x1_S4x2x4x8192x8192_0_1_2_3_4 x))

/-- The rows' sums, the sink's exponential added, kept away from zero. -/
def denom (p : FVec Ideal S4x2x4x8192x8192 .f32) (x : FVec Ideal S4x2x4x8192x1 .f32) (a3 : FVec Ideal S8 .f32) : FVec Ideal S4x2x4x8192x1 .f32 :=
  maximumf (addf (broadcastInDim S4x2x4x8192x1 ![0, 1, 2, 3] bcast_S4x2x4x8192_S4x2x4x8192x1_0_1_2_3
      (Host.reduceAdd p (constant S_ .f32 0x00000000#32) reducesTo_S4x2x4x8192x8192_S4x2x4x8192_d4 h_S_)) (Host.exp (subf (sinkRow a3) x)))
    (broadcastInDim S4x2x4x8192x1 ![] bcast_S_S4x2x4x8192x1 (constant S_ .f32 0x0DA24260#32))

/-- The probabilities times the values, the heads side by side. -/
def mixed (p : FVec Ideal S4x2x4x8192x8192 .f32) (y : FVec Ideal S4x2x4x8192x1 .f32) (a2 : FVec Ideal S4x2x8192x64 .f32) : FVec Ideal S4x8192x512 .f32 :=
  shapeCast _ (transpose S4x8192x8x64 [0, 2, 1, 3] (shapeCast _ (Host.dotGeneral dot_S4x2x4x8192x8192_S4x2x8192x64_S4x2x4x8192x64_4_2_23_3_01_01 none
    (Host.divf p (broadcastInDim S4x2x4x8192x8192 ![0, 1, 2, 3, 4] bcast_S4x2x4x8192x1_S4x2x4x8192x8192_0_1_2_3_4 y)) a2)
    shapeCasts_S4x2x4x8192x64_S4x8x8192x64 : FVec Ideal S4x8x8192x64 .f32) transposes_S4x8x8192x64_S4x8192x8x64_0_2_1_3) shapeCasts_S4x8192x8x64_S4x8192x512

/-- The reference's result as these steps. -/
def result (a0 : FVec Ideal S4x8x8192x64 .f32) (a1 a2 : FVec Ideal S4x2x8192x64 .f32) (a3 : FVec Ideal S8 .f32) : FVec Ideal S4x8192x512 .f32 :=
  mixed (expRow (masked a0 a1) (finiteTop (rowTop (masked a0 a1) a3)))
    (denom (expRow (masked a0 a1) (finiteTop (rowTop (masked a0 a1) a3))) (finiteTop (rowTop (masked a0 a1) a3)) a3) a2

theorem res_eq (m : (ℓ : Loc nD τ sig) → Buf (Elt Ideal) ℓ) (c : Dev nD) :
    Value.res_main_v41 (F := Ideal) m c = result (m ((c : Thread nD τ).loc main_arg0)) (m ((c : Thread nD τ).loc main_arg1))
      (m ((c : Thread nD τ).loc main_arg2)) (m ((c : Thread nD τ).loc main_arg3)) := rfl

theorem masked_apply (a0 : FVec Ideal S4x8x8192x64 .f32) (a1 : FVec Ideal S4x2x8192x64 .f32) (b : Fin 4) (g : Fin 2) (r : Fin 4) (t k : Fin 8192) :
    masked a0 a1 (ix5 b g r t k) = Scalar.select (band (ix2 t k))
      ((∑ e : Fin 64, a0 (ix4 b ⟨g.val * 4 + r.val, by omega⟩ t e) * a1 (ix4 b g k e)) * Ideal.ofBits .f32 0x3E000000#32) ⊥ := by
  pointwise [masked]
  rw [ofBits_bot]

theorem band_apply (t k : Fin 8192) : band (ix2 t k) = 1#1 ↔ sees 128 t.val k.val := by
  pointwise [band, rel]
  have hw : (IntOp.subi (BitVec.ofNat 32 t.val) (BitVec.ofNat 32 k.val)).toInt = (t.val : ℤ) - k.val := by
    have hn : (IntOp.subi (BitVec.ofNat 32 t.val) (BitVec.ofNat 32 k.val)).toNat = (t.val + (2 ^ 32 - k.val)) % 2 ^ 32 := by
      simp only [IntOp.subi, BitVec.toNat_sub, BitVec.toNat_ofNat]
      omega
    rw [BitVec.toInt_eq_toNat_cond, hn]
    split_ifs <;> omega
  unfold sees
  rw [WordCmp.cmpi_sge_eq, WordCmp.cmpi_slt_eq, hw, show (0#32 : BitVec 32).toInt = 0 from rfl, show (128#32 : BitVec 32).toInt = 128 from rfl]
  by_cases h1 : (0 : ℤ) ≤ (t.val : ℤ) - k.val
  · by_cases h2 : (t.val : ℤ) - k.val < 128
    · rw [decide_eq_true h1, decide_eq_true h2]; exact iff_of_true rfl (by omega)
    · rw [decide_eq_true h1, decide_eq_false h2]; exact iff_of_false (by decide) (by omega)
  · by_cases h2 : (t.val : ℤ) - k.val < 128
    · rw [decide_eq_false h1, decide_eq_true h2]; exact iff_of_false (by decide) (by omega)
    · rw [decide_eq_false h1, decide_eq_false h2]; exact iff_of_false (by decide) (by omega)

theorem fold_sup {n : ℕ} (z : EReal) (hz : z = ⊥) (f : Fin n → EReal) : Finset.univ.fold max z f = Finset.univ.sup f := by
  subst hz; exact fold_max f

theorem rowMax_apply (s : FVec Ideal S4x2x4x8192x8192 .f32) (b : Fin 4) (g : Fin 2) (r : Fin 4) (t : Fin 8192) :
    rowMax s (ix4 b g r t) = Finset.univ.sup fun k => s (ix5 b g r t k) := by
  unfold rowMax
  rw [Host.reduce_eq_fold, Shape.ReducesTo.fold_fiber_r5_a4]
  exact fold_sup (n := 8192) _ ofBits_bot _

theorem withSink_apply (x : FVec Ideal S4x2x4x8192 .f32) (a3 : FVec Ideal S8 .f32) (b : Fin 4) (g : Fin 2) (r : Fin 4) (t : Fin 8192) :
    (maximumf (broadcastInDim S4x2x4x8192x1 ![0, 1, 2, 3] bcast_S4x2x4x8192_S4x2x4x8192x1_0_1_2_3 x) (sinkRow a3) : FVec Ideal S4x2x4x8192x1 .f32) (ix5 b g r t 0) =
      max (x (ix4 b g r t)) (a3 (ix1 ⟨g.val * 4 + r.val, by omega⟩)) := by
  pointwise [sinkRow]

theorem rowTop_apply (s : FVec Ideal S4x2x4x8192x8192 .f32) (a3 : FVec Ideal S8 .f32) (b : Fin 4) (g : Fin 2) (r : Fin 4) (t : Fin 8192) :
    rowTop s a3 (ix5 b g r t 0) = max (rowMax s (ix4 b g r t)) (a3 (ix1 ⟨g.val * 4 + r.val, by omega⟩)) :=
  withSink_apply (rowMax s) a3 b g r t

theorem ofBits_top : Ideal.ofBits FTy.f32 0x7F800000#32 = ⊤ := by
  simp [Ideal.ofBits, Ideal.ieee]

theorem finiteTop_apply (x : FVec Ideal S4x2x4x8192x1 .f32) (b : Fin 4) (g : Fin 2) (r : Fin 4) (t : Fin 8192) (y : ℝ)
    (h : x (ix5 b g r t 0) = (y : EReal)) : finiteTop x (ix5 b g r t 0) = (y : EReal) := by
  pointwise [finiteTop]
  rw [h, ofBits_top]
  refine if_pos ?_
  show max (y : EReal) (-(y : EReal)) < ⊤
  exact max_lt (EReal.coe_lt_top y) (by rw [← EReal.coe_neg]; exact EReal.coe_lt_top _)

theorem expRow_apply (s : FVec Ideal S4x2x4x8192x8192 .f32) (x : FVec Ideal S4x2x4x8192x1 .f32) (b : Fin 4) (g : Fin 2) (r : Fin 4) (t k : Fin 8192) :
    expRow s x (ix5 b g r t k) = Ideal.exp (s (ix5 b g r t k) - x (ix5 b g r t 0)) := by
  pointwise [expRow]

theorem denom_apply (p : FVec Ideal S4x2x4x8192x8192 .f32) (x : FVec Ideal S4x2x4x8192x1 .f32) (a3 : FVec Ideal S8 .f32) (b : Fin 4) (g : Fin 2) (r : Fin 4) (t : Fin 8192) :
    denom p x a3 (ix5 b g r t 0) = max (∑ k, p (ix5 b g r t k) + Ideal.exp (a3 (ix1 ⟨g.val * 4 + r.val, by omega⟩) - x (ix5 b g r t 0))) (Ideal.ofBits .f32 0x0DA24260#32) := by
  pointwise [denom, sinkRow]

theorem mixed_apply (p : FVec Ideal S4x2x4x8192x8192 .f32) (y : FVec Ideal S4x2x4x8192x1 .f32) (a2 : FVec Ideal S4x2x8192x64 .f32) (b : Fin 4) (g : Fin 2) (r : Fin 4) (t : Fin 8192) (d : Fin 64) :
    mixed p y a2 (ix3 b t ⟨64 * (g.val * 4 + r.val) + d.val, by omega⟩) = ∑ k, Ideal.div (p (ix5 b g r t k)) (y (ix5 b g r t 0)) * a2 (ix4 b g k d) := by
  pointwise [mixed]

theorem eighth : Ideal.ofBits FTy.f32 0x3E000000#32 = ((1 / 8 : ℝ) : EReal) := by
  simp [Ideal.ofBits, Ideal.ieee]
  rw [← EReal.coe_mul]
  norm_num

/-- The reference's result: dense softmax over the band with the head's sink. -/
theorem result_apply (a0 : FVec Ideal S4x8x8192x64 .f32) (a1 a2 : FVec Ideal S4x2x8192x64 .f32) (a3 : FVec Ideal S8 .f32)
    (hq : ∀ i, IsReal (a0 i)) (hk : ∀ i, IsReal (a1 i)) (hx : ∀ i, Ne (α := EReal) (a3 i) ⊤)
    (b : Fin 4) (g : Fin 2) (r : Fin 4) (t : Fin 8192) (d : Fin 64) :
    result a0 a1 a2 a3 (ix3 b t ⟨64 * (g.val * 4 + r.val) + d.val, by omega⟩) =
      dense 128 t.val (fun key => dotScore (fun e => a0 (ix4 b ⟨g.val * 4 + r.val, by omega⟩ t e)) (fun e => a1 (ix4 b g key e)))
        (fun key => a2 (ix4 b g key d)) (a3 (ix1 ⟨g.val * 4 + r.val, by omega⟩)) (Ideal.ofBits .f32 0x0DA24260#32) := by
  have hm : ∀ k : Fin 8192, masked a0 a1 (ix5 b g r t k) = score 128 t.val (fun key : Fin 8192 => dotScore (fun e => a0 (ix4 b ⟨g.val * 4 + r.val, by omega⟩ t e)) (fun e => a1 (ix4 b g key e))) k := by
    intro k
    rw [masked_apply, eighth, dot_scaled (fun e => a0 (ix4 b ⟨g.val * 4 + r.val, by omega⟩ t e)) (fun e => a1 (ix4 b g k e)) (fun e => hq _) (fun e => hk _)]
    exact if_congr (band_apply t k) rfl rfl
  have ht : rowTop (masked a0 a1) a3 (ix5 b g r t 0) = top 128 t.val (fun key : Fin 8192 => dotScore (fun e => a0 (ix4 b ⟨g.val * 4 + r.val, by omega⟩ t e)) (fun e => a1 (ix4 b g key e))) (a3 (ix1 ⟨g.val * 4 + r.val, by omega⟩)) := by
    rw [rowTop_apply, rowMax_apply, funext hm]
    rfl
  obtain ⟨y, hy⟩ := top_real (w := 128) (t := t.val) (fun key : Fin 8192 => dotScore (fun e => a0 (ix4 b ⟨g.val * 4 + r.val, by omega⟩ t e)) (fun e => a1 (ix4 b g key e))) (a3 (ix1 ⟨g.val * 4 + r.val, by omega⟩))
    (hx _) t ⟨le_refl _, by omega⟩
  have hf := (finiteTop_apply (rowTop (masked a0 a1) a3) b g r t y (ht.trans hy)).trans hy.symm
  unfold result
  rw [mixed_apply, denom_apply]
  simp only [expRow_apply, hm, hf]
  rfl

end Cert.SwaRef
end
-- ==== Proof.SwaEq.lean ====
module

public import proofs.«01_k».proof.Defs
public import proofs.«01_k».proof.Proof.Gen.Pre_finite
public import proofs.«01_k».proof.Proof.SwaRun
public import proofs.«01_k».proof.Proof.SwaRef
public import Idealize.ShloMosaic.Lib.ReduceAll

@[expose] public section

set_option maxRecDepth 16384

noncomputable section

namespace Cert.SwaEq

open Cert.KernelIdeal Idealize.ShloMosaic Idealize.ShloMosaic.TcCoe Idealize.SL.Sem
open Cert.Window

/-- An array with one element only has one index. -/
instance : Subsingleton Cert.Pre_finite.S_.Idx := ⟨fun a b => funext fun k => k.elim0⟩

/-- A magnitude below the infinity is a real number's. -/
theorem isReal_of_lt (x : EReal) (h : Ideal.cmp .olt (max x (-x)) (Ideal.ofBits .f32 0x7F800000#32) = 1#1) : IsReal x := by
  rw [SwaRef.ofBits_top] at h
  have hlt : max x (-x) < ⊤ := by
    by_contra hn
    simp [Ideal.cmp, hn] at h
  refine ⟨?_, ?_⟩
  · rintro rfl; exact absurd (lt_of_le_of_lt (le_max_left _ _) hlt) (lt_irrefl _)
  · rintro rfl
    refine absurd (lt_of_le_of_lt (le_max_right _ _) hlt) ?_
    rw [EReal.neg_bot]; exact lt_irrefl _

/-- What the precondition says of the arguments. -/
theorem reals (a0 : FVec Ideal S4x8x8192x64 .f32) (a1 a2 : FVec Ideal S4x2x8192x64 .f32) (a3 : FVec Ideal S8 .f32)
    (h : Cert.Pre_finite.fn (F := Ideal) a0 a1 a2 a3 = fun _ => 1#1) :
    (∀ i, IsReal (a0 i)) ∧ (∀ i, IsReal (a1 i)) ∧ ∀ i, IsReal (a3 i) := by
  have e := congrFun h (fun k => k.elim0)
  obtain ⟨e1, e3⟩ := IntOp.andi_eq_one.mp e
  obtain ⟨e0, e1⟩ := IntOp.andi_eq_one.mp e1
  exact ⟨fun i => isReal_of_lt _ (Host.reduce_andi_all _ _ _ _ _ e0 i), fun i => isReal_of_lt _ (Host.reduce_andi_all _ _ _ _ _ e1 i),
    fun i => isReal_of_lt _ (Host.reduce_andi_all _ _ _ _ _ e3 i)⟩

/-- The reference's result is the layer. -/
theorem result_eq (a0 : FVec Ideal S4x8x8192x64 .f32) (a1 a2 : FVec Ideal S4x2x8192x64 .f32) (a3 : FVec Ideal S8 .f32)
    (hq : ∀ i, IsReal (a0 i)) (hk : ∀ i, IsReal (a1 i)) (hx : ∀ i, Ne (α := EReal) (a3 i) ⊤) :
    SwaRef.result a0 a1 a2 a3 = SwaValue.layer a0 a1 a2 a3 := by
  funext y
  idx_vars y
  obtain ⟨h, d, rfl⟩ : ∃ (h : Fin 8) (d : Fin 64), y2 = ⟨64 * h.val + d.val, by omega⟩ :=
    ⟨⟨y2.val / 64, by omega⟩, ⟨y2.val % 64, by omega⟩, Fin.ext (by show y2.val = 64 * (y2.val / 64) + y2.val % 64; omega)⟩
  have e : SwaValue.layer a0 a1 a2 a3 (ix3 y0 y1 ⟨64 * h.val + d.val, by omega⟩) = SwaValue.outAt a0 a1 a2 a3 y0 h y1 d := by
    show SwaValue.outAt a0 a1 a2 a3 y0 ⟨(64 * h.val + d.val) / 64, _⟩ y1 ⟨(64 * h.val + d.val) % 64, _⟩ = _
    congr 1
    · refine Fin.ext ?_
      show (64 * h.val + d.val) / 64 = h.val
      omega
    · refine Fin.ext ?_
      show (64 * h.val + d.val) % 64 = d.val
      omega
  rw [e]
  obtain ⟨g, r, rfl⟩ : ∃ (g : Fin 2) (r : Fin 4), h = ⟨g.val * 4 + r.val, by omega⟩ :=
    ⟨⟨h.val / 4, by omega⟩, ⟨h.val % 4, by omega⟩, Fin.ext (by show h.val = h.val / 4 * 4 + h.val % 4; omega)⟩
  refine (SwaRef.result_apply a0 a1 a2 a3 hq hk hx y0 g r y1 d).trans ?_
  have hg : g = ⟨(g.val * 4 + r.val) / 4, by omega⟩ := Fin.ext (by show g.val = (g.val * 4 + r.val) / 4; omega)
  unfold SwaValue.outAt
  exact congrArg (fun g' : Fin 2 => dense 128 y1.val (fun key : Fin 8192 => dotScore (fun e => a0 (ix4 y0 ⟨g.val * 4 + r.val, by omega⟩ y1 e)) (fun e => a1 (ix4 y0 g' key e)))
    (fun key => a2 (ix4 y0 g' key d)) (a3 (ix1 ⟨g.val * 4 + r.val, by omega⟩)) (Ideal.ofBits .f32 0x0DA24260#32)) hg

/-- The sliding-window attention of the short windows: kernel and reference leave the same result. -/
theorem algebraic : algebraic_KernelIdeal_ReferenceIdeal_pre_finite :=
  fun m ρ m' ρ' hpre hag => by
    have hr := fun c => reals _ _ _ _ (hpre c)
    refine ⟨fun c => SwaValue.G m c, SwaValue.run m ρ (fun c => (hr c).1) (fun c => (hr c).2.1) (fun c i => ((hr c).2.2 i).1), ?_⟩
    refine (θ_run _ _ _).mono (fun _ h c => ⟨(h c).1.trans ?_, (h c).2⟩) (ReferenceIdeal.Value.run m' ρ')
    refine (SwaRef.res_eq m' c).trans ?_
    rw [(hag c).1, (hag c).2.1, (hag c).2.2.1, (hag c).2.2.2]
    exact result_eq _ _ _ _ (hr c).1 (hr c).2.1 (fun i => ((hr c).2.2 i).1)

end Cert.SwaEq

end
-- ==== Proof.FfnSpec.lean ====
module

public import Idealize.ShloMosaic.Lib.Pointwise
public import Idealize.ShloMosaic.PureOps.Ideal

@[expose] public section

noncomputable section

namespace Cert.Rows

open Idealize.ShloMosaic
open scoped BigOperators

/-- One row of RMS normalisation: each entry times the reciprocal root of the mean square plus the small constant,
    times the gain of its column. -/
def rmsRow (x g : Fin 1024 → EReal) (k : Fin 1024) : EReal :=
  x k * Ideal.rsqrt (Ideal.div (∑ k, x k * x k) (Ideal.ofBits .f32 0x44800000#32) + Ideal.ofBits .f32 0x358637BD#32) * g k

/-- The logistic function. -/
def sigm (a : EReal) : EReal := Ideal.div 1 (1 + Ideal.exp (-a))

end Cert.Rows

namespace Cert.FfnValue

open Idealize.ShloMosaic Cert.Rows
open scoped BigOperators

/-- A hidden unit of the gated feed-forward layer on one row: the gate's product through its logistic, times the up
    projection's product. -/
def hid (x g : Fin 1024 → EReal) (wg wu : Fin 1024 → Fin 2816 → EReal) (f : Fin 2816) : EReal :=
  (∑ k, rmsRow x g k * wg k f) * sigm (∑ k, rmsRow x g k * wg k f) * ∑ k, rmsRow x g k * wu k f

/-- One entry of the layer's result: the row's own entry plus half of the hidden units' product with the down projection. -/
def ffn (x g : Fin 1024 → EReal) (wg wu : Fin 1024 → Fin 2816 → EReal) (wd : Fin 2816 → Fin 1024 → EReal) (j : Fin 1024) : EReal :=
  x j + Ideal.ofBits .f32 0x3F000000#32 * ∑ f, hid x g wg wu f * wd f j

/-- A sum over the 2816 hidden units, taken in eleven runs of 256. -/
theorem sum_runs (F : Fin 2816 → EReal) :
    ∑ f, F f = (∑ x : Fin 256, F ⟨↑x, by omega⟩) + (∑ x : Fin 256, F ⟨256 + ↑x, by omega⟩) + (∑ x : Fin 256, F ⟨512 + ↑x, by omega⟩)
      + (∑ x : Fin 256, F ⟨768 + ↑x, by omega⟩) + (∑ x : Fin 256, F ⟨1024 + ↑x, by omega⟩) + (∑ x : Fin 256, F ⟨1280 + ↑x, by omega⟩)
      + (∑ x : Fin 256, F ⟨1536 + ↑x, by omega⟩) + (∑ x : Fin 256, F ⟨1792 + ↑x, by omega⟩) + (∑ x : Fin 256, F ⟨2048 + ↑x, by omega⟩)
      + (∑ x : Fin 256, F ⟨2304 + ↑x, by omega⟩) + (∑ x : Fin 256, F ⟨2560 + ↑x, by omega⟩) := by
  rw [Fin.sum_univ_two_halves 2560 256 rfl, Fin.sum_univ_two_halves 2304 256 rfl, Fin.sum_univ_two_halves 2048 256 rfl,
    Fin.sum_univ_two_halves 1792 256 rfl, Fin.sum_univ_two_halves 1536 256 rfl, Fin.sum_univ_two_halves 1280 256 rfl,
    Fin.sum_univ_two_halves 1024 256 rfl, Fin.sum_univ_two_halves 768 256 rfl, Fin.sum_univ_two_halves 512 256 rfl,
    Fin.sum_univ_two_halves 256 256 rfl]

end Cert.FfnValue

end
-- ==== Proof.FfnBlock.lean ====
module

public import proofs.«01_k».proof.Proof.Gen.Kernel2Ideal.Frame
public import Idealize.ShloMosaic.Lib.Pointwise
public import Idealize.ShloMosaic.Lib.UnfoldOut
public import Idealize.ShloMosaic.PureOps.Ideal
public import proofs.«01_k».proof.Proof.FfnSpec

@[expose] public section

set_option maxRecDepth 16384

noncomputable section

namespace Cert.FfnValue

open Idealize.ShloMosaic Cert.Kernel2Ideal Cert.Kernel2Ideal.Gen Cert.Rows
open scoped BigOperators

theorem hz2 : (![0, 0] : Fin 2 → Nat) = fun _ => 0 := funext fun a => by fin_cases a <;> rfl

set_option maxHeartbeats 4000000 in
/-- What one grid point leaves at row `i`, column `j` of its block: the layer on row `i` of the loaded rows. -/
theorem block_apply (x0 : Vec Ideal S1024x1024 .f32) (x1 : Vec Ideal S1x1024 .f32) (x2 x3 : Vec Ideal S1024x2816 .bf16)
    (x4 : Vec Ideal S2816x1024 .bf16) (i j : Fin 1024) :
    out0_5 x0 x1 x2 x3 x4 (ix2 i j) = ffn (fun k => x0 (ix2 i k)) (fun k => x1 (ix2 0 k)) (fun k f => x2 (ix2 k f))
      (fun k f => x3 (ix2 k f)) (fun f j => x4 (ix2 f j)) j := by
  unfold_out out0_5
  rw [View.canon_unit_zero hz2]
  unfold_payloads
  pointwise
  unfold ffn
  rw [sum_runs]
  simp only [hid, sigm, rmsRow, zero_sub]

end Cert.FfnValue

end
-- ==== Proof.FfnArray.lean ====
module

public import proofs.«01_k».proof.Proof.Gen.Kernel2Ideal.Value
public import proofs.«01_k».proof.Proof.FfnBlock
public import Idealize.ShloMosaic.Lib.Pipeline.ValueKit

@[expose] public section

set_option maxRecDepth 16384

noncomputable section

namespace Cert.FfnValue

open Cert.Kernel2Ideal Cert.Kernel2Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- The layer's result over 32768 rows, of the argument arrays. -/
def layer (a0 : FVec Ideal S4x8192x1024 .f32) (a1 : FVec Ideal S1024 .f32) (a2 a3 : FVec Ideal S1024x2816 .f32)
    (a4 : FVec Ideal S2816x1024 .f32) : S32768x1024.Idx → EReal := fun i =>
  ffn (fun k => a0 (ix3 ⟨(i 0 : ℕ) / 8192, by have : (i 0 : ℕ) < 32768 := (i 0).isLt; omega⟩ ⟨(i 0 : ℕ) % 8192, by omega⟩ k)) (fun k => a1 (ix1 k))
    (fun k f => a2 (ix2 k f)) (fun k f => a3 (ix2 k f)) (fun f j => a4 (ix2 f j)) (i 1)

/-- The layer's result, of the arguments of device `c`. -/
def G (c : Dev nD) : S32768x1024.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4))

theorem idx0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![t.val, 0])

theorem x_blk (c : Dev nD) (t : Fin cfg0.N) (i k : Fin 1024) :
    iblk m c 0 t (ix2 i k) = m ((c : Thread nD τ).loc main_arg0)
      (ix3 ⟨(t.val * 1024 + ↑i) / 8192, by have : t.val < 32 := t.isLt; omega⟩ ⟨(t.val * 1024 + ↑i) % 8192, by omega⟩ k) := by
  blk_ext! [iblk, idx0 t]

theorem g_blk (c : Dev nD) (t : Fin cfg0.N) (k : Fin 1024) :
    iblk m c 1 t (ix2 0 k) = m ((c : Thread nD τ).loc main_arg1) (ix1 k) := by
  blk_ext! [iblk, idx0 t]

theorem wg_blk (c : Dev nD) (t : Fin cfg0.N) (k : Fin 1024) (f : Fin 2816) :
    iblk m c 2 t (ix2 k f) = m ((c : Thread nD τ).loc main_arg2) (ix2 k f) := by
  blk_ext! [iblk, idx0 t]

theorem wu_blk (c : Dev nD) (t : Fin cfg0.N) (k : Fin 1024) (f : Fin 2816) :
    iblk m c 3 t (ix2 k f) = m ((c : Thread nD τ).loc main_arg3) (ix2 k f) := by
  blk_ext! [iblk, idx0 t]

theorem wd_blk (c : Dev nD) (t : Fin cfg0.N) (f : Fin 2816) (j : Fin 1024) :
    iblk m c 4 t (ix2 f j) = m ((c : Thread nD τ).loc main_arg4) (ix2 f j) := by
  blk_ext! [iblk, idx0 t]

/-- The result array ends holding the layer's result: point `t` writes back its block of it, and the blocks tile the array. -/
theorem final (c : Dev nD) : (dats m 0 c).arrAt 5 cfg0.N = G m c := by
  refine (dats m 0 c).arrAt_eq_of_covers 5 _ (by decide +kernel) fun t hf y => ?_
  idx_vars y
  have e : ((cfg0.win 5).blk t).view.emb (ix2 y0 y1) = ix2 (⟨t.val * 1024 + ↑y0, by have : t.val < 32 := t.isLt; omega⟩ : Fin 32768) y1 := by
    blk_ext [idx0 t]
  rw [e]
  show (dats m 0 c).after 5 t (ix2 y0 y1) = _
  rw [after0_5, block_apply]
  simp only [x_blk, g_blk, wg_blk, wu_blk, wd_blk]
  rfl

/-- and the run, read: the result array at the layer's result, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.FfnValue

end
-- ==== Proof.FfnRef.lean ====
module

public import proofs.«01_k».proof.Proof.Gen.Reference2Ideal.Run
public import proofs.«01_k».proof.Proof.FfnSpec

@[expose] public section

set_option maxRecDepth 16384

noncomputable section

namespace Cert.FfnRef

open Cert.Reference2Ideal Cert.Reference2Ideal.Gen Idealize.ShloMosaic Idealize.ShloMosaic.TcCoe Idealize.SL.Sem Idealize.ShloMosaic.StableHlo
open Cert.FfnValue Cert.Rows
open scoped BigOperators

/-- The reference's result at row `r`, column `j`: the layer on row `r` of the input read as 32768 rows. -/
theorem ref_apply (a0 : FVec Ideal S4x8192x1024 .f32) (a1 : FVec Ideal S1024 .f32) (a2 a3 : FVec Ideal S1024x2816 .f32)
    (a4 : FVec Ideal S2816x1024 .f32) (r : Fin 32768) (j : Fin 1024) :
    (shapeCast _ (addf a0 (mulf (broadcastInDim S4x8192x1024 ![] bcast_S_S4x8192x1024 (constant S_ .f32 0x3F000000#32)) (Host.dotGeneral dot_S4x8192x2816_S2816x1024_S4x8192x1024_2_0_01_1_n_n none (mulf (mulf (Host.dotGeneral dot_S4x8192x1024_S1024x2816_S4x8192x2816_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) a2) (Host.divf (broadcastInDim S4x8192x2816 ![] bcast_S_S4x8192x2816 (constant S_ .f32 0x3F800000#32)) (addf (broadcastInDim S4x8192x2816 ![] bcast_S_S4x8192x2816 (constant S_ .f32 0x3F800000#32)) (Host.exp (Host.negf (Host.dotGeneral dot_S4x8192x1024_S1024x2816_S4x8192x2816_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) a2)))))) (Host.dotGeneral dot_S4x8192x1024_S1024x2816_S4x8192x2816_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) a3)) a4))) shapeCasts_S4x8192x1024_S32768x1024 : FVec Ideal S32768x1024 .f32) (ix2 r j)
      = ffn (fun k => a0 (ix3 ⟨↑r / 8192, by omega⟩ ⟨↑r % 8192, by omega⟩ k)) (fun k => a1 (ix1 k)) (fun k f => a2 (ix2 k f))
          (fun k f => a3 (ix2 k f)) (fun f j => a4 (ix2 f j)) j := by
  pointwise
  simp only [ffn, hid, sigm, rmsRow]

end Cert.FfnRef

end
-- ==== Proof.FfnEq.lean ====
module

public import proofs.«01_k».proof.Defs
public import proofs.«01_k».proof.Proof.FfnArray
public import proofs.«01_k».proof.Proof.FfnRef

@[expose] public section

set_option maxRecDepth 16384

noncomputable section

namespace Cert.FfnEq

open Idealize.ShloMosaic Idealize.ShloMosaic.TcCoe Idealize.SL.Sem

/-- The feed-forward layer: kernel and reference leave the same result. -/
theorem algebraic : algebraic_Kernel2Ideal_Reference2Ideal :=
  fun m ρ m' ρ' _ hag => ⟨fun c => FfnValue.G m c, FfnValue.run m ρ,
    (θ_run _ _ _).mono (fun _ h c => ⟨(h c).1.trans (by
      funext i
      idx_vars i
      rw [FfnRef.ref_apply, (hag c).1, (hag c).2.1, (hag c).2.2.1, (hag c).2.2.2.1, (hag c).2.2.2.2]
      rfl), (h c).2⟩) (Reference2Ideal.Value.run m' ρ')⟩

end Cert.FfnEq

end
-- ==== Proof.MergeSpec.lean ====
module

public import proofs.«01_k».proof.Proof.FfnSpec

@[expose] public section

noncomputable section

namespace Cert.MergeValue

open Idealize.ShloMosaic Cert.Rows
open scoped BigOperators

/-- The gate of branch `n` at column `k`, of a row `x`: the logistic of the normalised row's product with that branch's
    gate columns plus the bias. -/
def gate (x g : Fin 1024 → EReal) (wg : Fin 1024 → Fin 4096 → EReal) (bias : Fin 4096 → EReal) (n : Fin 4) (k : Fin 1024) : EReal :=
  sigm ((∑ q, rmsRow x g q * wg q ⟨↑n * 1024 + ↑k, by omega⟩) + bias ⟨↑n * 1024 + ↑k, by omega⟩)

/-- One branch's projected value through its gate. -/
def branch (x g : Fin 1024 → EReal) (wg : Fin 1024 → Fin 4096 → EReal) (bias : Fin 4096 → EReal) (y : Fin 512 → EReal)
    (wb : Fin 4 → Fin 512 → Fin 1024 → EReal) (n : Fin 4) (k : Fin 1024) : EReal :=
  gate x g wg bias n k * ∑ w, y w * wb n w k

/-- One entry of the merged result: the row's own entry plus the gated branches' sum through the output projection. -/
def merge (x g : Fin 1024 → EReal) (wg : Fin 1024 → Fin 4096 → EReal) (bias : Fin 4096 → EReal) (y0 y1 y2 y3 : Fin 512 → EReal)
    (wb : Fin 4 → Fin 512 → Fin 1024 → EReal) (wo : Fin 1024 → Fin 1024 → EReal) (j : Fin 1024) : EReal :=
  x j + ∑ k, (branch x g wg bias y0 wb 0 k + branch x g wg bias y1 wb 1 k + branch x g wg bias y2 wb 2 k
    + branch x g wg bias y3 wb 3 k) * wo k j

end Cert.MergeValue

end
-- ==== Proof.MergeBlock.lean ====
module

public import proofs.«01_k».proof.Proof.Gen.Kernel3Ideal.Frame
public import Idealize.ShloMosaic.Lib.UnfoldOut
public import proofs.«01_k».proof.Proof.MergeSpec

@[expose] public section

set_option maxRecDepth 16384

noncomputable section

namespace Cert.MergeValue

open Idealize.ShloMosaic Cert.Kernel3Ideal Cert.Kernel3Ideal.Gen Cert.Rows
open scoped BigOperators

theorem hz2 : (![0, 0] : Fin 2 → Nat) = fun _ => 0 := funext fun a => by fin_cases a <;> rfl

set_option maxHeartbeats 4000000 in
/-- What one grid point leaves at row `i`, column `j` of its block: the merge of row `i` of the loaded rows. -/
theorem block_apply (x0 : Vec Ideal S512x1024 .f32) (x1 : Vec Ideal S1x1024 .f32) (x2 : Vec Ideal S1024x4096 .bf16) (x3 : Vec Ideal S1x4096 .f32)
    (x4 x5 x6 x7 x8 x9 : Vec Ideal S512x512 .f32) (x10 : Vec Ideal S4x512x1024 .bf16) (x11 : Vec Ideal S1024x1024 .bf16)
    (i : Fin 512) (j : Fin 1024) :
    out0_12 x0 x1 x2 x3 x4 x5 x6 x7 x8 x9 x10 x11 (ix2 i j) = merge (fun k => x0 (ix2 i k)) (fun k => x1 (ix2 0 k)) (fun k f => x2 (ix2 k f))
      (fun f => x3 (ix2 0 f)) (fun w => x4 (ix2 i w)) (fun w => x5 (ix2 i w)) (fun w => x6 (ix2 i w) + x7 (ix2 i w) + x8 (ix2 i w))
      (fun w => x9 (ix2 i w)) (fun n w k => x10 (ix3 n w k)) (fun f j => x11 (ix2 f j)) j := by
  unfold_out out0_12
  rw [View.canon_unit_zero hz2]
  unfold_payloads
  pointwise
  simp only [merge, branch, gate, sigm, rmsRow, zero_sub]
  rfl

end Cert.MergeValue

end
-- ==== Proof.MergeArray.lean ====
module

public import proofs.«01_k».proof.Proof.Gen.Kernel3Ideal.Value
public import Idealize.ShloMosaic.Lib.Pipeline.ValueKit
public import proofs.«01_k».proof.Proof.MergeBlock

@[expose] public section

set_option maxRecDepth 16384

noncomputable section

namespace Cert.MergeValue

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

/-- Row `r` of one of the branches' results, read as 32768 rows of 512. -/
def rowOf (a : FVec Ideal S4x8192x512 .f32) (r : Fin 32768) (w : Fin 512) : EReal :=
  a (ix3 ⟨↑r / 8192, by omega⟩ ⟨↑r % 8192, by omega⟩ w)

/-- The merge over 32768 rows, of the argument arrays. -/
def layer (a0 : FVec Ideal S4x8192x1024 .f32) (a1 : FVec Ideal S1024 .f32) (a2 : FVec Ideal S1024x9240 .f32) (a3 : FVec Ideal S4096 .f32)
    (a4 a5 a6 a7 a8 a9 : FVec Ideal S4x8192x512 .f32) (a10 : FVec Ideal S4x512x1024 .f32) (a11 : FVec Ideal S1024x1024 .f32)
    (i : S32768x1024.Idx) : EReal :=
  merge (fun k => a0 (ix3 ⟨(i 0 : ℕ) / 8192, by have : (i 0 : ℕ) < 32768 := (i 0).isLt; omega⟩ ⟨(i 0 : ℕ) % 8192, by omega⟩ k)) (fun k => a1 (ix1 k)) (fun k f => a2 (ix2 k ⟨5144 + ↑f, by omega⟩))
    (fun f => a3 (ix1 f)) (fun w => rowOf a4 (i 0) w) (fun w => rowOf a5 (i 0) w)
    (fun w => rowOf a6 (i 0) w + rowOf a7 (i 0) w + rowOf a8 (i 0) w) (fun w => rowOf a9 (i 0) w)
    (fun n w k => a10 (ix3 n w k)) (fun f j => a11 (ix2 f j)) (i 1)

/-- The merge, of the arguments of device `c`. -/
def G (c : Dev nD) : S32768x1024.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem idx0 : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0, 0]
    ∧ win0_11.index t = ![0, 0] ∧ win0_12.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0, 0]
    ∧ win0_11.index t = ![0, 0] ∧ win0_12.index t = ![t.val, 0])

/-- The row of the arrays that row `i` of point `t`'s blocks is. -/
abbrev row (t : Fin cfg0.N) (i : Fin 512) : Fin 32768 := ⟨t.val * 512 + ↑i, by have : t.val < 64 := t.isLt; omega⟩

theorem x_blk (c : Dev nD) (t : Fin cfg0.N) (i : Fin 512) (k : Fin 1024) :
    iblk m c 0 t (ix2 i k) = m ((c : Thread nD τ).loc main_arg0)
      (ix3 ⟨(t.val * 512 + ↑i) / 8192, by have : t.val < 64 := t.isLt; omega⟩ ⟨(t.val * 512 + ↑i) % 8192, by omega⟩ k) := by
  blk_ext! [iblk, idx0 t]

theorem g_blk (c : Dev nD) (t : Fin cfg0.N) (k : Fin 1024) :
    iblk m c 1 t (ix2 0 k) = m ((c : Thread nD τ).loc main_arg1) (ix1 k) := by
  blk_ext! [iblk, idx0 t]

theorem wg_blk (c : Dev nD) (t : Fin cfg0.N) (k : Fin 1024) (f : Fin 4096) :
    iblk m c 2 t (ix2 k f) = m ((c : Thread nD τ).loc main_arg2) (ix2 k ⟨5144 + ↑f, by omega⟩) := by
  blk_ext! [iblk, idx0 t]

theorem bias_blk (c : Dev nD) (t : Fin cfg0.N) (f : Fin 4096) :
    iblk m c 3 t (ix2 0 f) = m ((c : Thread nD τ).loc main_arg3) (ix1 f) := by
  blk_ext! [iblk, idx0 t]

theorem y4_blk (c : Dev nD) (t : Fin cfg0.N) (i w : Fin 512) :
    iblk m c 4 t (ix2 i w) = rowOf (m ((c : Thread nD τ).loc main_arg4)) (row t i) w := by
  unfold rowOf
  blk_ext! [iblk, idx0 t]

theorem y5_blk (c : Dev nD) (t : Fin cfg0.N) (i w : Fin 512) :
    iblk m c 5 t (ix2 i w) = rowOf (m ((c : Thread nD τ).loc main_arg5)) (row t i) w := by
  unfold rowOf
  blk_ext! [iblk, idx0 t]

theorem y6_blk (c : Dev nD) (t : Fin cfg0.N) (i w : Fin 512) :
    iblk m c 6 t (ix2 i w) = rowOf (m ((c : Thread nD τ).loc main_arg6)) (row t i) w := by
  unfold rowOf
  blk_ext! [iblk, idx0 t]

theorem y7_blk (c : Dev nD) (t : Fin cfg0.N) (i w : Fin 512) :
    iblk m c 7 t (ix2 i w) = rowOf (m ((c : Thread nD τ).loc main_arg7)) (row t i) w := by
  unfold rowOf
  blk_ext! [iblk, idx0 t]

theorem y8_blk (c : Dev nD) (t : Fin cfg0.N) (i w : Fin 512) :
    iblk m c 8 t (ix2 i w) = rowOf (m ((c : Thread nD τ).loc main_arg8)) (row t i) w := by
  unfold rowOf
  blk_ext! [iblk, idx0 t]

theorem y9_blk (c : Dev nD) (t : Fin cfg0.N) (i w : Fin 512) :
    iblk m c 9 t (ix2 i w) = rowOf (m ((c : Thread nD τ).loc main_arg9)) (row t i) w := by
  unfold rowOf
  blk_ext! [iblk, idx0 t]

theorem wb_blk (c : Dev nD) (t : Fin cfg0.N) (n : Fin 4) (w : Fin 512) (k : Fin 1024) :
    iblk m c 10 t (ix3 n w k) = m ((c : Thread nD τ).loc main_arg10) (ix3 n w k) := by
  blk_ext! [iblk, idx0 t]

theorem wo_blk (c : Dev nD) (t : Fin cfg0.N) (f j : Fin 1024) :
    iblk m c 11 t (ix2 f j) = m ((c : Thread nD τ).loc main_arg11) (ix2 f j) := by
  blk_ext! [iblk, idx0 t]

/-- The result array ends holding the merge: point `t` writes back its block of it, and the blocks tile the array. -/
theorem final (c : Dev nD) : (dats m 0 c).arrAt 12 cfg0.N = G m c := by
  refine (dats m 0 c).arrAt_eq_of_covers 12 _ (by decide +kernel) fun t hf y => ?_
  idx_vars y
  have e : ((cfg0.win 12).blk t).view.emb (ix2 y0 y1) = ix2 (row t y0) y1 := by
    blk_ext [idx0 t]
  rw [e]
  show (dats m 0 c).after 12 t (ix2 y0 y1) = _
  rw [after0_12, block_apply]
  simp only [x_blk, g_blk, wg_blk, bias_blk, y4_blk, y5_blk, y6_blk, y7_blk, y8_blk, y9_blk, wb_blk, wo_blk]
  rfl

/-- and the run, read: the result array at the merge, the arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.MergeValue

end
-- ==== Proof.MergeRef.lean ====
module

public import proofs.«01_k».proof.Proof.Gen.Reference3Ideal.Run
public import proofs.«01_k».proof.Proof.MergeSpec

@[expose] public section

set_option maxRecDepth 16384

noncomputable section

namespace Cert.MergeRef

open Cert.Reference3Ideal Cert.Reference3Ideal.Gen Idealize.ShloMosaic Idealize.ShloMosaic.TcCoe Idealize.SL.Sem Idealize.ShloMosaic.StableHlo
open Cert.MergeValue Cert.Rows
open scoped BigOperators

/-- The reference's result at row `r`, column `j`: the merge of row `r` of the inputs read as 32768 rows. -/
theorem ref_apply (a0 : FVec Ideal S4x8192x1024 .f32) (a1 : FVec Ideal S1024 .f32) (a2 : FVec Ideal S1024x9240 .f32) (a3 : FVec Ideal S4096 .f32)
    (a4 a5 a6 a7 a8 a9 : FVec Ideal S4x8192x512 .f32) (a10 : FVec Ideal S4x512x1024 .f32) (a11 : FVec Ideal S1024x1024 .f32)
    (r : Fin 32768) (j : Fin 1024) :
    (shapeCast _ (addf a0 (Host.dotGeneral dot_S4x8192x1024_S1024x1024_S4x8192x1024_2_0_01_1_n_n none (Host.reduceAdd (mulf (shapeCast _ (Host.divf (broadcastInDim S4x8192x4096 ![] bcast_S_S4x8192x4096 (constant S_ .f32 0x3F800000#32)) (addf (broadcastInDim S4x8192x4096 ![] bcast_S_S4x8192x4096 (constant S_ .f32 0x3F800000#32)) (Host.exp (Host.negf (addf (extractStridedSlice S4x8192x4096 ![0, 0, 5144] (Host.dotGeneral dot_S4x8192x1024_S1024x9240_S4x8192x9240_2_0_01_1_n_n none (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a1))) a2) slices_S4x8192x9240_S4x8192x4096_0_0_5144) (broadcastInDim S4x8192x4096 ![0, 1, 2] bcast_S1x1x4096_S4x8192x4096_0_1_2 (broadcastInDim S1x1x4096 ![2] bcast_S4096_S1x1x4096_2 a3))))))) shapeCasts_S4x8192x4096_S4x8192x4x1024) (transpose S4x8192x4x1024 [2, 3, 0, 1] (Host.dotGeneral dot_S4x512x1024_S4x8192x4x512_S4x1024x4x8192_1_3_2_01_0_2 none a10 ((concatenate S4x8192x4x512 2 [⟨S4x8192x1x512, ((broadcastInDim S4x8192x1x512 ![0, 1, 3] bcast_S4x8192x512_S4x8192x1x512_0_1_3 a4) : FVec Ideal S4x8192x1x512 .f32)⟩, ⟨S4x8192x1x512, ((broadcastInDim S4x8192x1x512 ![0, 1, 3] bcast_S4x8192x512_S4x8192x1x512_0_1_3 a5) : FVec Ideal S4x8192x1x512 .f32)⟩, ⟨S4x8192x1x512, ((broadcastInDim S4x8192x1x512 ![0, 1, 3] bcast_S4x8192x512_S4x8192x1x512_0_1_3 (addf (addf a6 a7) a8)) : FVec Ideal S4x8192x1x512 .f32)⟩, ⟨S4x8192x1x512, ((broadcastInDim S4x8192x1x512 ![0, 1, 3] bcast_S4x8192x512_S4x8192x1x512_0_1_3 a9) : FVec Ideal S4x8192x1x512 .f32)⟩] concatenates_S4x8192x1x512_S4x8192x1x512_S4x8192x1x512_S4x8192x1x512_S4x8192x4x512_d2 : FVec Ideal S4x8192x4x512 .f32))) transposes_S4x1024x4x8192_S4x8192x4x1024_2_3_0_1)) (constant S_ .f32 0x00000000#32) reducesTo_S4x8192x4x1024_S4x8192x1024_d2 h_S_) a11)) shapeCasts_S4x8192x1024_S32768x1024 : FVec Ideal S32768x1024 .f32) (ix2 r j)
      = merge (fun k => a0 (ix3 ⟨↑r / 8192, by omega⟩ ⟨↑r % 8192, by omega⟩ k)) (fun k => a1 (ix1 k)) (fun k f => a2 (ix2 k ⟨5144 + ↑f, by omega⟩))
          (fun f => a3 (ix1 f)) (fun w => a4 (ix3 ⟨↑r / 8192, by omega⟩ ⟨↑r % 8192, by omega⟩ w))
          (fun w => a5 (ix3 ⟨↑r / 8192, by omega⟩ ⟨↑r % 8192, by omega⟩ w))
          (fun w => a6 (ix3 ⟨↑r / 8192, by omega⟩ ⟨↑r % 8192, by omega⟩ w) + a7 (ix3 ⟨↑r / 8192, by omega⟩ ⟨↑r % 8192, by omega⟩ w)
            + a8 (ix3 ⟨↑r / 8192, by omega⟩ ⟨↑r % 8192, by omega⟩ w))
          (fun w => a9 (ix3 ⟨↑r / 8192, by omega⟩ ⟨↑r % 8192, by omega⟩ w))
          (fun n w k => a10 (ix3 n w k)) (fun f j => a11 (ix2 f j)) j := by
  pointwise
  simp only [merge, branch, gate, sigm, rmsRow, Fin.sum_univ_four]
  simp (config := {decide := true}) only [↓reduceDIte]
  simp only [fun i y => mul_comm (a10 i) y]

end Cert.MergeRef

end
-- ==== Proof.MergeEq.lean ====
module

public import proofs.«01_k».proof.Defs
public import proofs.«01_k».proof.Proof.MergeArray
public import proofs.«01_k».proof.Proof.MergeRef

@[expose] public section

set_option maxRecDepth 16384

noncomputable section

namespace Cert.MergeEq

open Idealize.ShloMosaic Idealize.ShloMosaic.TcCoe Idealize.SL.Sem

/-- The gated merge of the branches: kernel and reference leave the same result. -/
theorem algebraic : algebraic_Kernel3Ideal_Reference3Ideal :=
  fun m ρ m' ρ' _ hag => ⟨fun c => MergeValue.G m c, MergeValue.run m ρ,
    (θ_run _ _ _).mono (fun _ h c => ⟨(h c).1.trans (by
      funext i
      idx_vars i
      rw [MergeRef.ref_apply, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]
      rfl), (h c).2⟩) (Reference3Ideal.Value.run m' ρ')⟩

end Cert.MergeEq

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.SwaEq
public import proofs.«01_k».proof.Proof.FfnEq
public import proofs.«01_k».proof.Proof.MergeEq
public import Idealize.ShloMosaic.Lib.Quiescent
public import Idealize.ShloMosaic.Adequacy
public import Idealize.ShloMosaic.Init

@[expose] public section

noncomputable section

namespace Cert.Proof

open Idealize.ShloMosaic Idealize.SL.Sem

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem named : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3E38AA3B#32 (((1 / 8) * (Real.log 2)⁻¹ : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    named, SwaEq.algebraic, trivial, FfnEq.algebraic, trivial, MergeEq.algebraic⟩

end Cert.Proof

end
